-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S4x8192 : Shape := ⟨2, ![4, 8192]⟩
abbrev S16x768 : Shape := ⟨2, ![16, 768]⟩
abbrev S8x4096x768 : Shape := ⟨3, ![8, 4096, 768]⟩
abbrev S8x32x1x128 : Shape := ⟨4, ![8, 32, 1, 128]⟩
abbrev S8x4096x16 : Shape := ⟨3, ![8, 4096, 16]⟩
abbrev S6x8x128x768 : Shape := ⟨4, ![6, 8, 128, 768]⟩
abbrev S2x8x128x16 : Shape := ⟨4, ![2, 8, 128, 16]⟩
abbrev S6x8 : Shape := ⟨2, ![6, 8]⟩
abbrev S2 : Shape := ⟨1, ![2]⟩
abbrev S1x768 : Shape := ⟨2, ![1, 768]⟩
abbrev S1x16 : Shape := ⟨2, ![1, 16]⟩
abbrev S16 : Shape := ⟨1, ![16]⟩
abbrev S16x1 : Shape := ⟨2, ![16, 1]⟩
abbrev S128x128 : Shape := ⟨2, ![128, 128]⟩
abbrev S128x16 : Shape := ⟨2, ![128, 16]⟩
abbrev S1x1 : Shape := ⟨2, ![1, 1]⟩
abbrev S_ : Shape := ⟨0, ![]⟩
abbrev S1x1x128x768 : Shape := ⟨4, ![1, 1, 128, 768]⟩
abbrev S128x768 : Shape := ⟨2, ![128, 768]⟩
abbrev S1x128x768 : Shape := ⟨3, ![1, 128, 768]⟩
abbrev S128x1 : Shape := ⟨2, ![128, 1]⟩
abbrev S1x1x1x128 : Shape := ⟨4, ![1, 1, 1, 128]⟩
abbrev S1x128 : Shape := ⟨2, ![1, 128]⟩
abbrev S1x1x128x16 : Shape := ⟨4, ![1, 1, 128, 16]⟩
abbrev S1 : Shape := ⟨1, ![1]⟩
abbrev S8x128x16 : Shape := ⟨3, ![8, 128, 16]⟩
abbrev S1x8x128x16 : Shape := ⟨4, ![1, 8, 128, 16]⟩
abbrev S4x8192x16 : Shape := ⟨3, ![4, 8192, 16]⟩

abbrev nBuf : Space → Nat
  | .hbm => 7
  | .vmem => 4
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S16x768, .f32⟩
  | .hbm, ⟨3, _⟩ => ⟨S8x4096x768, .f32⟩
  | .hbm, ⟨4, _⟩ => ⟨S8x32x1x128, .i32⟩
  | .hbm, ⟨5, _⟩ => ⟨S8x4096x16, .f32⟩
  | .hbm, ⟨6, _⟩ => ⟨S4x8192x16, .f32⟩
  | .local _ .vmem, ⟨0, _⟩ => ⟨S8x32x1x128, .i32⟩
  | .local _ .vmem, ⟨1, _⟩ => ⟨S16x768, .f32⟩
  | .local _ .vmem, ⟨2, _⟩ => ⟨S6x8x128x768, .f32⟩
  | .local _ .vmem, ⟨3, _⟩ => ⟨S2x8x128x16, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x768 : Shape := ⟨3, ![4, 8192, 768]⟩
abbrev S4x8192 : Shape := ⟨2, ![4, 8192]⟩
abbrev S16x768 : Shape := ⟨2, ![16, 768]⟩
abbrev S_ : Shape := ⟨0, ![]⟩
abbrev S4x8192x1 : Shape := ⟨3, ![4, 8192, 1]⟩
abbrev S16 : Shape := ⟨1, ![16]⟩
abbrev S16x1 : Shape := ⟨2, ![16, 1]⟩
abbrev S4x8192x16 : Shape := ⟨3, ![4, 8192, 16]⟩
abbrev S1x1x16 : Shape := ⟨3, ![1, 1, 16]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S16x768, .f32⟩
  | .hbm, ⟨3, _⟩ => ⟨S4x8192x768, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S4x8192x768, .f32⟩
  | .hbm, ⟨12, _⟩ => ⟨S4x8192x768, .f32⟩
  | .hbm, ⟨13, _⟩ => ⟨S16x768, .f32⟩
  | .hbm, ⟨14, _⟩ => ⟨S_, .f32⟩
  | .hbm, ⟨15, _⟩ => ⟨S16, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x768, .f32⟩
  | .hbm, ⟨22, _⟩ => ⟨S16x768, .f32⟩
  | .hbm, ⟨23, _⟩ => ⟨S4x8192x16, .f32⟩
  | .hbm, ⟨24, _⟩ => ⟨S16x768, .f32⟩
  | .hbm, ⟨25, _⟩ => ⟨S_, .f32⟩
  | .hbm, ⟨26, _⟩ => ⟨S16x768, .f32⟩
  | .hbm, ⟨27, _⟩ => ⟨S16x768, .i1⟩
  | .hbm, ⟨28, _⟩ => ⟨S_, .i1⟩
  | .hbm, ⟨29, _⟩ => ⟨S16, .i1⟩
  | .hbm, ⟨30, _⟩ => ⟨S4x8192x1, .i32⟩
  | .hbm, ⟨31, _⟩ => ⟨S16, .i32⟩
  | .hbm, ⟨32, _⟩ => ⟨S1x1x16, .i32⟩
  | .hbm, ⟨33, _⟩ => ⟨S4x8192x16, .i32⟩
  | .hbm, ⟨34, _⟩ => ⟨S4x8192x16, .i32⟩
  | .hbm, ⟨35, _⟩ => ⟨S4x8192x16, .i1⟩
  | .hbm, ⟨36, _⟩ => ⟨S_, .f32⟩
  | .hbm, ⟨37, _⟩ => ⟨S_, .f32⟩
  | .hbm, ⟨38, _⟩ => ⟨S4x8192x16, .f32⟩
  | .hbm, ⟨39, _⟩ => ⟨S4x8192x16, .f32⟩
  | .hbm, ⟨40, _⟩ => ⟨S4x8192x16, .f32⟩
  | .hbm, ⟨41, _⟩ => ⟨S1x1x16, .i1⟩
  | .hbm, ⟨42, _⟩ => ⟨S4x8192x16, .i1⟩
  | .hbm, ⟨43, _⟩ => ⟨S4x8192x16, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_v26 : Ref sig .tc := ⟨.hbm, 41, rfl⟩
abbrev main_call2_v0 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Schedule.lean ====
/-
  The kernel's body as a schedule: which copies it starts, which it awaits and what it stores, for 32 steps.

  Every step's windows are written as functions of the step and the batch row, so that one proof serves every step.
-/
module

public import Idealize.ShloMosaic.Lib.Pipeline
public import Idealize.ShloMosaic.Lib.Sig
public import Idealize.ShloMosaic.PureOps

@[expose] public section

noncomputable section

namespace Cert.Sched

open Idealize.ShloMosaic Idealize.SL.Sem

abbrev SX : Shape := ⟨3, ![8, 4096, 768]⟩
abbrev SL : Shape := ⟨4, ![8, 32, 1, 128]⟩
abbrev SC : Shape := ⟨2, ![16, 768]⟩
abbrev SO : Shape := ⟨3, ![8, 4096, 16]⟩
abbrev SBuf : Shape := ⟨4, ![6, 8, 128, 768]⟩
abbrev SOut : Shape := ⟨4, ![2, 8, 128, 16]⟩
abbrev SSem : Shape := ⟨2, ![6, 8]⟩
abbrev SSem2 : Shape := ⟨1, ![2]⟩
abbrev S0 : Shape := ⟨0, ![]⟩
abbrev B1 : Shape := ⟨1, ![1]⟩
abbrev B11 : Shape := ⟨2, ![1, 1]⟩
abbrev BX4 : Shape := ⟨4, ![1, 1, 128, 768]⟩
abbrev BX3 : Shape := ⟨3, ![1, 128, 768]⟩
abbrev BX : Shape := ⟨2, ![128, 768]⟩
abbrev BL : Shape := ⟨4, ![1, 1, 1, 128]⟩
abbrev BO : Shape := ⟨4, ![1, 1, 128, 16]⟩
abbrev BH4 : Shape := ⟨4, ![1, 8, 128, 16]⟩
abbrev BH : Shape := ⟨3, ![8, 128, 16]⟩

theorem inbX (s j : Nat) : ∀ a, (![s % 8, 128 * (j % 32), 0] : Fin 3 → Nat) a + BX3.size a ≤ SX.size a := by
  intro a; fin_cases a
  · show s % 8 + 1 ≤ 8; omega
  · show 128 * (j % 32) + 128 ≤ 4096; omega
  · show 0 + 768 ≤ 768; omega

theorem inbSlot (j s : Nat) : ∀ a, (![j % 6, s % 8, 0, 0] : Fin 4 → Nat) a + BX4.size a ≤ SBuf.size a := by
  intro a; fin_cases a
  · show j % 6 + 1 ≤ 6; omega
  · show s % 8 + 1 ≤ 8; omega
  · show 0 + 128 ≤ 128; omega
  · show 0 + 768 ≤ 768; omega

theorem inbSem (j s : Nat) : ∀ a, (![j % 6, s % 8] : Fin 2 → Nat) a + B11.size a ≤ SSem.size a := by
  intro a; fin_cases a
  · show j % 6 + 1 ≤ 6; omega
  · show s % 8 + 1 ≤ 8; omega

theorem inbSem2 (j : Nat) : ∀ a, (![j % 2] : Fin 1 → Nat) a + B1.size a ≤ SSem2.size a := by
  intro a; fin_cases a
  show j % 2 + 1 ≤ 2; omega

theorem inbHalf (j : Nat) : ∀ a, (![j % 2, 0, 0, 0] : Fin 4 → Nat) a + BH4.size a ≤ SOut.size a := by
  intro a; fin_cases a
  · show j % 2 + 1 ≤ 2; omega
  · show 0 + 8 ≤ 8; omega
  · show 0 + 128 ≤ 128; omega
  · show 0 + 16 ≤ 16; omega

theorem inbSlab (j : Nat) : ∀ a, (![0, 128 * (j % 32), 0] : Fin 3 → Nat) a + BH.size a ≤ SO.size a := by
  intro a; fin_cases a
  · show 0 + 8 ≤ 8; omega
  · show 128 * (j % 32) + 128 ≤ 4096; omega
  · show 0 + 16 ≤ 16; omega

theorem inbLab (s j : Nat) : ∀ a, (![s % 8, j % 32, 0, 0] : Fin 4 → Nat) a + BL.size a ≤ SL.size a := by
  intro a; fin_cases a
  · show s % 8 + 1 ≤ 8; omega
  · show j % 32 + 1 ≤ 32; omega
  · show 0 + 1 ≤ 1; omega
  · show 0 + 128 ≤ 128; omega

theorem inbBlk (j s : Nat) : ∀ a, (![j % 2, s % 8, 0, 0] : Fin 4 → Nat) a + BO.size a ≤ SOut.size a := by
  intro a; fin_cases a
  · show j % 2 + 1 ≤ 2; omega
  · show s % 8 + 1 ≤ 8; omega
  · show 0 + 128 ≤ 128; omega
  · show 0 + 16 ≤ 16; omega

theorem inbCa : ∀ a, (![0, 0] : Fin 2 → Nat) a + SC.size a ≤ SC.size a := by decide

theorem sqSem : B11.Squeezes S0 := by decide
theorem sqSem2 : B1.Squeezes S0 := by decide
theorem sqX4 : BX4.Squeezes BX := by decide
theorem sqX3 : BX3.Squeezes BX := by decide
theorem sqH : BH4.Squeezes BH := by decide
theorem posX : 0 < BX4.numel := by decide
theorem posL : 0 < BL.numel := by decide
theorem posO : 0 < BO.numel := by decide
theorem posC : 0 < SC.numel := by decide

/-- Where the tile of batch row `s` stands in slot `j`. -/
abbrev slotRect (j s : Nat) : Rect SBuf := Rect.unit (s := SBuf) ![j % 6, s % 8, 0, 0] BX4.size (inbSlot j s)
/-- Where the labels of batch row `s`, step `j` stand. -/
abbrev labRect (s j : Nat) : Rect SL := Rect.unit (s := SL) ![s % 8, j % 32, 0, 0] BL.size (inbLab s j)
/-- Where the result of batch row `s` stands in half `j`. -/
abbrev blkRect (j s : Nat) : Rect SOut := Rect.unit (s := SOut) ![j % 2, s % 8, 0, 0] BO.size (inbBlk j s)
/-- Where the result of step `j` stands in the result array. -/
abbrev slabRect (j : Nat) : Rect SO := Rect.unit (s := SO) ![0, 128 * (j % 32), 0] BH.size (inbSlab j)
/-- Half `j` of the output buffer. -/
abbrev halfRect (j : Nat) : Rect SOut := Rect.unit (s := SOut) ![j % 2, 0, 0, 0] BH4.size (inbHalf j)
/-- Where the tokens of batch row `s`, step `j` stand. -/
abbrev xRect (s j : Nat) : Rect SX := Rect.unit (s := SX) ![s % 8, 128 * (j % 32), 0] BX3.size (inbX s j)
/-- The prototypes, whole. -/
abbrev caRect : Rect SC := Rect.unit (s := SC) ![0, 0] SC.size inbCa

/-- The memrefs the body works on. -/
structure Args (sig : RefSig) where
  x : Memref sig .tc .hbm SX .f32
  lab : Memref sig .tc .vmem SL .i32
  ca : Memref sig .tc .vmem SC .f32
  out : Memref sig .tc .hbm SO .f32
  buf : Memref sig .tc .vmem SBuf .f32
  obuf : Memref sig .tc .vmem SOut .f32
  sems : DmaSems sig SSem
  osems : DmaSems sig SSem2

variable {nD : Nat} {τ : Topo} {sig : RefSig} {Λ : Labels} {F : FTy → Type} [FloatOps F]

namespace Args
variable (A : Args sig)

abbrev xwin (s j : Nat) : Memref sig .tc .hbm BX .f32 := (A.x.slice (xRect s j) (fun _ => rfl)).squeeze BX sqX3
abbrev slot (j s : Nat) : Memref sig .tc .vmem BX .f32 := (A.buf.slice (slotRect j s) (fun _ => rfl)).squeeze BX sqX4
abbrev sem (j s : Nat) : DmaSem sig :=
  ((A.sems.slice (Rect.unit (s := SSem) ![j % 6, s % 8] B11.size (inbSem j s))).squeeze S0 sqSem).sem
abbrev half (j : Nat) : Memref sig .tc .vmem BH .f32 := (A.obuf.slice (halfRect j) (fun _ => rfl)).squeeze BH sqH
abbrev slab (j : Nat) : Memref sig .tc .hbm BH .f32 := A.out.slice (slabRect j) (fun _ => rfl)
abbrev osem (j : Nat) : DmaSem sig :=
  ((A.osems.slice (Rect.unit (s := SSem2) ![j % 2] B1.size (inbSem2 j))).squeeze S0 sqSem2).sem
end Args

/-- The effects of the body, whatever the labels of the program. -/
abbrev Eff (nD : Nat) (τ : Topo) (sig : RefSig) (F : FTy → Type) [FloatOps F] (Λ : Labels) := TpuEff nD τ sig (Elt F) Λ .tc

variable (A : Args sig) (T : Vec F SC .f32 → Vec F BX4 .f32 → Vec F BL .i32 → Vec F BO .f32)

/-- Start the copy of batch row `s` of step `j` into its slot. -/
def start (j s : Nat) (rest : Prog (Eff nD τ sig F Λ) PUnit) : Prog (Eff nD τ sig F Λ) PUnit :=
  .op (.enqueueDma (A.xwin s j) (.here (A.slot j s)) (.dma (A.sem j s))
    ((View.wordExact_bits rfl).reshape _ _) ((View.wordExact_bits rfl).reshape _ _) ⟨Or.inl rfl, trivial⟩) fun _ => rest

/-- Await the copy of batch row `s` of step `j`. -/
def await (j s : Nat) (rest : Prog (Eff nD τ sig F Λ) PUnit) : Prog (Eff nD τ sig F Λ) PUnit :=
  .op (.waitDma2 (A.sem j s) (A.xwin s j) (A.slot j s)
    ((View.wordExact_bits rfl).reshape _ _) ((View.wordExact_bits rfl).reshape _ _)) fun _ => rest

/-- Compute batch row `s` of step `j` from its slot and store it in the output buffer. -/
def compute (ca : Vec F SC .f32) (j s : Nat) (rest : Prog (Eff nD τ sig F Λ) PUnit) : Prog (Eff nD τ sig F Λ) PUnit :=
  .op (.load A.buf (slotRect j s).toLoadRect (View.loadsAt_vmem posX)) fun x =>
  .op (.load A.lab (labRect s j).toLoadRect (View.loadsAt_vmem posL)) fun lab =>
  .op (.load A.obuf (blkRect j s).toLoadRect (View.loadsAt_vmem posO)) fun _ =>
  .op (.store A.obuf (blkRect j s) (T ca x lab) Finset.univ (View.stores_vmem_bits_univ posO rfl) (.inl rfl)) fun _ => rest

/-- Send the finished half of step `j` to the result. -/
def send (j : Nat) (rest : Prog (Eff nD τ sig F Λ) PUnit) : Prog (Eff nD τ sig F Λ) PUnit :=
  .op (.enqueueDma (A.half j) (.here (A.slab j)) (.dma (A.osem j))
    ((View.wordExact_bits rfl).reshape _ _) (View.wordExact_bits rfl) ⟨Or.inl rfl, trivial⟩) fun _ => rest

/-- Await the sending of step `j`. -/
def sent (j : Nat) (rest : Prog (Eff nD τ sig F Λ) PUnit) : Prog (Eff nD τ sig F Λ) PUnit :=
  .op (.waitDma2 (A.osem j) (A.half j) (A.slab j)
    ((View.wordExact_bits rfl).reshape _ _) (View.wordExact_bits rfl)) fun _ => rest

/-- The eight batch rows. -/
abbrev rows : List Nat := [0, 1, 2, 3, 4, 5, 6, 7]

/-- One step: fetch ahead, await this step's tokens, free the half, compute it, send it. -/
def step (ca : Vec F SC .f32) (j : Nat) (rest : Prog (Eff nD τ sig F Λ) PUnit) : Prog (Eff nD τ sig F Λ) PUnit :=
  (fun r => bif Nat.blt (j + 5) 32 then rows.foldr (start A (j + 5)) r else r) <|
  rows.foldr (await A j) <|
  (fun r => bif Nat.ble 2 j then sent A (j - 2) r else r) <|
  rows.foldr (compute A T ca j) <|
  send A j rest

/-- The whole body. -/
def body : Prog (Eff nD τ sig F Λ) PUnit :=
  .op (.load A.ca caRect.toLoadRect (View.loadsAt_vmem posC)) fun ca =>
  [0, 1, 2, 3, 4].foldr (fun j r => rows.foldr (start A j) r) <|
  [0, 1, 2, 3, 4, 5, 6, 7, 8, 9, 10, 11, 12, 13, 14, 15, 16, 17, 18, 19, 20, 21, 22, 23, 24, 25, 26, 27,
    28, 29, 30, 31].foldr (step A T ca) <|
  sent A 30 <| sent A 31 <| .ret ⟨⟩

end Cert.Sched
-- ==== Proof.Tile.lean ====
/-
  One tile: what the kernel computes from the prototypes and one 128-row block of tokens.
-/
module

public import proofs.«01_k».proof.Proof.Gen.KernelIdeal

@[expose] public section

noncomputable section

namespace Cert.Cosine

open Idealize.ShloMosaic Idealize.SL.Sem
open Cert.KernelIdeal Cert.KernelIdeal.Facts₀

variable {F : FTy → Type} [FloatOps F]

/-- One where a prototype's entry is infinite, zero elsewhere. -/
def infMask (ca : Vec F S16x768 .f32) : FVec F S16x768 .f32 :=
  select (cmpf .oeq (absf ca) (broadcast S16x768 (Scalar.ofBits .f32 0x7F800000#32)))
    (broadcast S16x768 (Scalar.ofBits .f32 0x3F800000#32))
    (broadcast S16x768 (Scalar.ofBits .f32 0x00000000#32))

/-- Which prototypes hold an infinity, as a row over the classes. -/
def hasInfRow (ca : Vec F S16x768 .f32) : IVec S1x16 1 :=
  cmpf .ogt
    (matmul dot_S1x768_S16x768_S1x16_1_1_0_0_n_n none
      (broadcast S1x768 (Scalar.ofBits .f32 0x3F800000#32)) (infMask ca)
      (constant (F := F) S1x16 .f32 0x00000000#32))
    (broadcast S1x16 (Scalar.ofBits .f32 0x00000000#32))

/-- Which prototypes hold an infinity, as a column. -/
def hasInfCol (ca : Vec F S16x768 .f32) : IVec S16x1 1 :=
  cmpf .ogt
    (shapeCast S16x1
      (multiReduction .maximumf [1] S16 (infMask ca) 0xFF800000#32 reduces_S16x768_S16 (.inl rfl) rfl)
      shapeCasts_S16_S16x1)
    (broadcast S16x1 (Scalar.ofBits .f32 0x00000000#32))

/-- The prototypes, a row that holds an infinity replaced by zeros. -/
def cleaned (ca : Vec F S16x768 .f32) : FVec F S16x768 .f32 :=
  select (broadcastTo S16x768 (shapeCast S16x1 (hasInfCol ca) shapeCasts_S16x1_S16x1)
      broadcasts_S16x1_S16x768)
    (broadcast S16x768 (Scalar.ofBits .f32 0x00000000#32)) ca

/-- The prototypes brought to unit length. -/
def unitRows (ca : Vec F S16x768 .f32) : FVec F S16x768 .f32 :=
  mulf (cleaned ca)
    (broadcastTo S16x768
      (divf (broadcast S16x1 (Scalar.ofBits .f32 0x3F800000#32))
        (maximumf
          (sqrt (shapeCast S16x1
            (multiReduction .add [1] S16 (mulf (cleaned ca) (cleaned ca)) 0x00000000#32
              reduces_S16x768_S16 (.inl rfl) rfl) shapeCasts_S16_S16x1))
          (broadcast S16x1 (Scalar.ofBits .f32 0x322BCC77#32))))
      broadcasts_S16x1_S16x768)

/-- The identity matrix by which a row of labels is turned into a column. -/
def pick : FVec F S128x128 .f32 :=
  select (cmpi .eq (iota .tc S128x128 32 [1] iota_S128x128_d1_w32)
      (iota .tc S128x128 32 [0] iota_S128x128_d0_w32))
    (broadcast S128x128 (Scalar.ofBits .f32 0x3F800000#32))
    (broadcast S128x128 (Scalar.ofBits .f32 0x00000000#32))

/-- The cosines of one block of tokens with all prototypes. -/
def tileCos (ca : Vec F S16x768 .f32) (x : FVec F S128x768 .f32) : FVec F S128x16 .f32 :=
  mulf
    (matmul dot_S128x768_S16x768_S128x16_1_1_0_0_n_n none x (unitRows ca)
      (constant (F := F) S128x16 .f32 0x00000000#32))
    (broadcastTo S128x16
      (divf (broadcast S128x1 (Scalar.ofBits .f32 0x3F800000#32))
        (maximumf
          (sqrt (matmul dot_S128x768_S1x768_S128x1_1_1_0_0_n_n none (mulf x x)
            (broadcast S1x768 (Scalar.ofBits .f32 0x3F800000#32))
            (constant (F := F) S128x1 .f32 0x00000000#32)))
          (broadcast S128x1 (Scalar.ofBits .f32 0x322BCC77#32))))
      broadcasts_S128x1_S128x16)

/-- One where a token's label is the class, minus one elsewhere. -/
def tileSign (lab : Vec F S1x1x1x128 .i32) : FVec F S128x16 .f32 :=
  select
    (cmpi .eq
      (broadcastTo S128x16
        (fptosi 32 (matmul dot_S128x128_S1x128_S128x1_1_1_0_0_n_n none (pick (F := F))
          (sitofp .f32 (shapeCast S1x128 (show IVec S1x1x1x128 32 from lab) shapeCasts_S1x1x1x128_S1x128))
          (constant (F := F) S128x1 .f32 0x00000000#32)))
        broadcasts_S128x1_S128x16)
      (iota .tc S128x16 32 [1] iota_S128x16_d1_w32))
    (broadcast S128x16 (Scalar.ofBits .f32 0x3F800000#32))
    (broadcast S128x16 (Scalar.ofBits .f32 0xBF800000#32))

/-- What the kernel stores for one block of tokens. -/
def tile (ca : Vec F S16x768 .f32) (x : Vec F S1x1x128x768 .f32) (lab : Vec F S1x1x1x128 .i32) :
    FVec F S1x1x128x16 .f32 :=
  shapeCast S1x1x128x16
    (select
      (broadcastTo S128x16 (shapeCast S1x16 (hasInfRow ca) shapeCasts_S1x16_S1x16)
        broadcasts_S1x16_S128x16)
      (tileSign (F := F) lab)
      (tileCos ca (shapeCast S128x768 x shapeCasts_S1x1x128x768_S128x768)))
    shapeCasts_S128x16_S1x1x128x16

end Cert.Cosine
-- ==== Proof.SchedKernel.lean ====
/-
  The printed body of the word-level program is the schedule.
-/
module

public import proofs.«01_k».proof.Proof.Gen.Kernel
public import proofs.«01_k».proof.Proof.Schedule
public import proofs.«01_k».proof.Proof.Tile
public import Idealize.ShloMosaic.Lib.Pipeline.Regions

@[expose] public section

noncomputable section

namespace Cert.Kernel.Sched

open Idealize.ShloMosaic Idealize.SL.Sem
open Cert.Kernel Cert.Sched

variable {F : FTy → Type} [FloatOps F]

set_option maxRecDepth 65536 in
theorem body_eq (arg0 : Memref sig .tc .hbm S8x4096x768 .f32) (harg0 : arg0.IsWhole)
    (arg1 : Memref sig .tc .vmem S8x32x1x128 .i32) (harg1 : arg1.IsWhole)
    (arg2 : Memref sig .tc .vmem S16x768 .f32) (harg2 : arg2.IsWhole)
    (arg3 : Memref sig .tc .hbm S8x4096x16 .f32) (harg3 : arg3.IsWhole)
    (arg4 : Memref sig .tc .vmem S6x8x128x768 .f32) (harg4 : arg4.IsWhole)
    (arg5 : Memref sig .tc .vmem S2x8x128x16 .f32) (harg5 : arg5.IsWhole)
    (arg6 : DmaSems sig S6x8) (arg7 : DmaSems sig S2) :
    cc0__pipeline_body (F := F) arg0 harg0 arg1 harg1 arg2 harg2 arg3 harg3 arg4 harg4 arg5 harg5 arg6 arg7
      = Cert.Sched.body (nD := nD) (τ := τ) (Λ := Λ₀) ⟨arg0, arg1, arg2, arg3, arg4, arg5, arg6, arg7⟩
          (Cert.Cosine.tile (F := F)) := by
  chain_rfl

end Cert.Kernel.Sched
-- ==== Proof.Rules.lean ====
/-
  What one start, one wait, one tile and one sending do to the pieces of the buffers.

  The slots, the halves of the output buffer, the windows of the tokens and the slabs of the result are each held
  as a piece of their buffer; a piece in flight is held as the copy's `Flight`, which the wait turns back.
-/
module

public import proofs.«01_k».proof.Proof.Schedule
public import Idealize.ShloMosaic.Lib.Pipeline.FrameSuffixV
public import Idealize.ShloMosaic.Lib.Pipeline.BigSepL
public import Idealize.ShloMosaic.Lib.Transfers
public import Idealize.ShloMosaic.Lib.ValueLayout
public import Idealize.ShloMosaic.Lib.Ring.FamCut
public import Idealize.ShloMosaic.Lib.Tactic

@[expose] public section

noncomputable section

namespace Cert.Sched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)

variable {nD : Nat} {τ : Topo} {sig : RefSig} {Λ : Labels} {F : FTy → Type} [FloatOps F]

local notation "𝕄" => MT nD τ sig Unit (Elt F) ℕ (Pipeline.UD sig nD τ) ℕ

/-- The counters the copies' flights are told apart by. -/
abbrev EC : UEmb Counters (MT nD τ sig Unit (Elt F) ℕ (Pipeline.UD sig nD τ) ℕ) := countersEmb (U := Pipeline.UD sig nD τ)

variable (A : Args sig) (c : Dev nD)
  (fx : Buf (Elt F) (A.x.view.loc (c : Thread nD τ))) (fl : Buf (Elt F) (A.lab.view.loc (c : Thread nD τ)))
  (T : Vec F SC .f32 → Vec F BX4 .f32 → Vec F BL .i32 → Vec F BO .f32) (ca : Vec F SC .f32)

/-- A copied block, with the two unit axes of the slot it came to put back. -/
def regroup (v : BX.Idx → Elt F .f32) : Vec F BX4 .f32 := fun i => v ((Shape.reshapeEquiv sqX4.numel_eq).symm i)

/-- Batch row `s` of a step's results. -/
def rowOf (s : Fin 8) (v : BH.Idx → Elt F .f32) : Vec F BO .f32 :=
  fun i => v (ix3 s (⟨(i 2).val, (i 2).isLt⟩ : Fin 128) (⟨(i 3).val, (i 3).isLt⟩ : Fin 16))

/-- The tokens of batch row `s`, step `t`. -/
def xval (s t : Nat) : Vec F BX4 .f32 := regroup ((A.xwin s t).view.read (Elt F) fx)
/-- The labels of batch row `s`, step `t`. -/
def lval (s t : Nat) : Vec F BL .i32 := (A.lab.access (labRect s t)).read (Elt F) fl
/-- What the kernel computes for batch row `s`, step `t`. -/
def res (s t : Nat) : Vec F BO .f32 := T ca (xval A c fx s t) (lval A c fl s t)

/-- The tokens of batch row `s`, step `t`, at rest. -/
def xt (t s : Nat) : sProp 𝕄 :=
  ((A.xwin s t).view.loc (c : Thread nD τ)) ↦[(A.xwin s t).view.set]{fullShare} fx

/-- A slot at any contents. -/
def slotAny (t s : Nat) : sProp 𝕄 :=
  iprop(∃ f, (A.slot t s).view.loc (c : Thread nD τ) ↦[(A.slot t s).view.set]{fullShare} f)
/-- A slot free to be filled. -/
def free (t s : Nat) : sProp 𝕄 := iprop(slotAny A c t s ∗ semVal ((c : Thread nD τ), .dma (A.sem t s)) 0)
/-- A slot that holds its tokens. -/
def full (t s : Nat) : sProp 𝕄 :=
  iprop(∃ f, ⌜(A.slot t s).view.read (Elt F) f = (A.xwin s t).view.read (Elt F) fx⌝
    ∗ (A.slot t s).view.loc (c : Thread nD τ) ↦[(A.slot t s).view.set]{fullShare} f)
/-- A slot being filled. -/
def fly (t s : Nat) : sProp 𝕄 :=
  Transfers.Flight EC (c : Thread nD τ) (.dma (A.sem t s)) () (A.slot t s).view.dmaCredit
    iprop(full A c fx t s ∗ xt A c fx t s)

/-- A half of the output buffer of which the rows before `k` are computed. -/
def hold (t k : Nat) : sProp 𝕄 :=
  iprop(∃ g, ⌜∀ s, s < k → (A.obuf.access (blkRect t s)).read (Elt F) g = res A c fx fl T ca s t⌝
    ∗ (A.half t).view.loc (c : Thread nD τ) ↦[(A.half t).view.set]{fullShare} g)
/-- A half at any contents. -/
def halfAny (t : Nat) : sProp 𝕄 :=
  iprop(∃ g, (A.half t).view.loc (c : Thread nD τ) ↦[(A.half t).view.set]{fullShare} g)
/-- A half free to be computed into. -/
def hfree (t : Nat) : sProp 𝕄 := iprop(halfAny A c t ∗ semVal ((c : Thread nD τ), .dma (A.osem t)) 0)
/-- A slab of the result not written yet. -/
def todo (t : Nat) : sProp 𝕄 :=
  iprop(∃ f, (A.slab t).view.loc (c : Thread nD τ) ↦[(A.slab t).view.set]{fullShare} f)
/-- A slab of the result that holds what the kernel computes for its step. -/
def done (t : Nat) : sProp 𝕄 :=
  iprop(∃ f, ⌜∀ s : Fin 8, rowOf s ((A.slab t).view.read (Elt F) f) = res A c fx fl T ca s t⌝
    ∗ (A.slab t).view.loc (c : Thread nD τ) ↦[(A.slab t).view.set]{fullShare} f)
/-- A half being sent. -/
def sending (t : Nat) : sProp 𝕄 :=
  Transfers.Flight EC (c : Thread nD τ) (.dma (A.osem t)) () (A.slab t).view.dmaCredit
    iprop(done A c fx fl T ca t ∗ halfAny A c t)

/-- What the core owes: nothing, whatever waits it has recorded. -/
def owesAny : sProp 𝕄 := iprop(∃ W, owes (c : Thread nD τ) 0 W)
/-- The labels, at rest. -/
def labs : sProp 𝕄 := A.lab.view.loc (c : Thread nD τ) ↦[A.lab.view.set]{fullShare} fl

variable (defs : Defs nD τ sig (Elt F) Λ) (Q : PUnit.{1} → sProp (MT nD τ sig Unit (Elt F) ℕ (Pipeline.UD sig nD τ) ℕ))

theorem wp_start (t s : Nat) (rest : Prog (Eff nD τ sig F Λ) PUnit) :
    iprop(free A c t s ∗ xt A c fx t s) ⊢ iprop((fly A c fx t s -∗ wp frame (wpE defs Variants.none (c : Thread nD τ) none) Set.univ rest Q) -∗ wp frame (wpE defs Variants.none (c : Thread nD τ) none) Set.univ (start A t s rest) Q) := by
  unfold free slotAny xt
  iintro ⟨⟨⟨%f, Hd⟩, Hv⟩, Hx⟩ Hk
  iapply (Transfers.wp_dmaLocal EC Variants.none (c : Thread nD τ) none (src := A.xwin s t) (dst := A.slot t s)
    (via := ReadAs.same) (sm := .dma (A.sem t s)) () (A.slot t s).view.dmaCredit rfl
    (View.dmaCredit_pos _ (by decide)) (Finset.Subset.refl _)) $$ [Hx Hd Hv]
  · isplitl [Hx]; · iexact Hx
    isplitl [Hd]; · iexact Hd
    iexact Hv
  iintro HF
  iapply Hk
  unfold fly
  iapply (Transfers.Flight_mono EC (c : Thread nD τ) ?_) $$ HF
  unfold full xt
  iintro ⟨Hd, Hx⟩
  isplitr [Hx]
  · iexists _
    isplitr; swap; · iexact Hd
    ipureintro
    exact View.read_write_univ _ _
  iexact Hx

theorem wp_await (t s : Nat) (rest : Prog (Eff nD τ sig F Λ) PUnit) :
    iprop(fly A c fx t s ∗ owesAny c)
      ⊢ iprop((iprop((full A c fx t s ∗ semVal ((c : Thread nD τ), .dma (A.sem t s)) 0) ∗ xt A c fx t s ∗ owesAny c) -∗ wp frame (wpE defs Variants.none (c : Thread nD τ) none) Set.univ rest Q)
        -∗ wp frame (wpE defs Variants.none (c : Thread nD τ) none) Set.univ (await A t s rest) Q) := by
  unfold fly owesAny
  iintro ⟨HF, ⟨%W, HW⟩⟩ Hk
  iapply (Transfers.wp_waitLocal EC Variants.none (c : Thread nD τ) none (sem := A.sem t s) (srcw := A.xwin s t)
    (dstw := A.slot t s) () rfl) $$ [HF HW]
  · isplitl [HF]; · iexact HF
    iexact HW
  iintro ⟨⟨Hf, Hx⟩, Hv, HW⟩
  iapply Hk
  isplitl [Hf Hv]
  · isplitl [Hf]; · iexact Hf
    iexact Hv
  isplitl [Hx]; · iexact Hx
  iexists _; iexact HW

/-! ## The halves of the output buffer, row by row -/

/-- Element `i` of the block of row `s` is element `(s, i)` of the half. -/
theorem emb_blk (t s : Nat) (hs : s < 8) (i : BO.Idx) :
    (A.obuf.access (blkRect t s)).emb i
      = (A.half t).view.emb (ix3 (⟨s, hs⟩ : Fin 8) (⟨(i 2).val, (i 2).isLt⟩ : Fin 128) (⟨(i 3).val, (i 3).isLt⟩ : Fin 16)) := by
  have h : (blkRect t s).emb i = (halfRect t).emb (Shape.reshapeEquiv sqH.numel_eq
      (ix3 (⟨s, hs⟩ : Fin 8) (⟨(i 2).val, (i 2).isLt⟩ : Fin 128) (⟨(i 3).val, (i 3).isLt⟩ : Fin 16))) := by
    rw [ValueIdx.reshapeEquiv_ix3_1abc]
    funext a
    have h0 : (i 0).val < 1 := (i 0).isLt
    have h1 : (i 1).val < 1 := (i 1).isLt
    fin_cases a <;> apply Fin.ext <;> rw [Rect.emb_apply, Rect.emb_apply]
    · show t % 2 + 1 * (i 0).val = t % 2 + 1 * 0; omega
    · show s % 8 + 1 * (i 1).val = 0 + 1 * s; omega
    · rfl
    · rfl
  exact congrArg A.obuf.view.emb h

theorem blk_read (t : Nat) (s : Fin 8) (g : (A.half t).view.ty.Contents (Elt F)) :
    (A.obuf.access (blkRect t s)).read (Elt F) g = rowOf s ((A.half t).view.read (Elt F) g) := by
  funext i
  rw [View.read_apply, rowOf, View.read_apply]
  have h := emb_blk A t s s.isLt i
  rw [h]

theorem blk_sub (t s : Nat) (hs : s < 8) : (A.obuf.access (blkRect t s)).set ⊆ (A.half t).view.set := by
  intro x hx
  obtain ⟨i, -, rfl⟩ := Finset.mem_map.mp hx
  rw [emb_blk A t s hs i]
  exact View.emb_mem_set _ _

theorem blk_disj (t s s' : Nat) (hs : s < 8) (hs' : s' < 8) (h : s ≠ s') :
    Disjoint (A.obuf.access (blkRect t s)).set (A.obuf.access (blkRect t s')).set := by
  rw [View.set_slice, View.set_slice]
  refine (Finset.disjoint_map _).mpr (Rect.unit_disjoint (1 : Fin 4) ?_)
  show s % 8 + 1 ≤ s' % 8 ∨ s' % 8 + 1 ≤ s % 8
  omega

theorem slot_set (t s : Nat) : (A.buf.access (slotRect t s)).set = (A.slot t s).view.set :=
  (View.set_reshape _ _).symm

/-- What is loaded from a slot is what was copied to it. -/
theorem slot_read (t s : Nat) (f : (A.slot t s).view.ty.Contents (Elt F)) :
    (A.buf.access (slotRect t s)).read (Elt F) f = regroup ((A.slot t s).view.read (Elt F) f) := by
  funext i
  rw [regroup, View.read_apply, View.read_apply]
  have h : (A.slot t s).view.emb ((Shape.reshapeEquiv sqX4.numel_eq).symm i) = (A.buf.access (slotRect t s)).emb i := by
    show A.buf.view.emb ((slotRect t s).emb (Shape.reshapeEquiv sqX4.numel_eq ((Shape.reshapeEquiv sqX4.numel_eq).symm i))) = _
    rw [Equiv.apply_symm_apply]; rfl
  rw [h]

theorem wp_compute (t s : Nat) (hs : s < 8) (rest : Prog (Eff nD τ sig F Λ) PUnit) :
    iprop(full A c fx t s ∗ labs A c fl ∗ hold A c fx fl T ca t s)
      ⊢ iprop((iprop(slotAny A c t s ∗ labs A c fl ∗ hold A c fx fl T ca t (s + 1)) -∗ wp frame (wpE defs Variants.none (c : Thread nD τ) none) Set.univ rest Q)
        -∗ wp frame (wpE defs Variants.none (c : Thread nD τ) none) Set.univ (compute A T ca t s rest) Q) := by
  unfold full labs hold slotAny
  iintro ⟨⟨%f, %hf, Hs⟩, Hl, ⟨%g, %hg, Hh⟩⟩ Hk
  iapply (wp_load_rect Variants.none (c : Thread nD τ) none Set.univ (m := A.buf) (r := slotRect t s)
    (S := (A.slot t s).view.set) (by rw [slot_set])) $$ Hs
  iintro Hs
  iapply (wp_load_rect Variants.none (c : Thread nD τ) none Set.univ (m := A.lab) (r := labRect s t)
    (S := A.lab.view.set) (View.set_slice_subset (v := A.lab.view) (labRect s t))) $$ Hl
  iintro Hl
  iapply (wp_load_rect Variants.none (c : Thread nD τ) none Set.univ (m := A.obuf) (r := blkRect t s)
    (S := (A.half t).view.set) (blk_sub A t s hs)) $$ Hh
  iintro Hh
  iapply (wp_store Variants.none (c : Thread nD τ) none Set.univ (m := A.obuf) (r := blkRect t s)
    (S := (A.half t).view.set) (by rw [View.setOn_univ]; exact blk_sub A t s hs)) $$ Hh
  iintro Hh
  iapply Hk
  isplitl [Hs]; · iexists _; iexact Hs
  isplitl [Hl]; · iexact Hl
  iexists _
  isplitr; swap; · iexact Hh
  ipureintro
  intro s' hs'
  rcases Nat.lt_succ_iff_lt_or_eq.mp hs' with h | h
  · rw [View.read_slice_write_slice_of_disjoint]
    · exact hg s' h
    · rw [View.setOn_univ]; exact blk_disj A t s' s (by omega) hs (by omega)
  · subst h
    rw [View.read_write_univ, slot_read, hf]; rfl

theorem wp_send (t : Nat) (rest : Prog (Eff nD τ sig F Λ) PUnit) :
    iprop(hold A c fx fl T ca t 8 ∗ semVal ((c : Thread nD τ), .dma (A.osem t)) 0 ∗ todo A c t)
      ⊢ iprop((sending A c fx fl T ca t -∗ wp frame (wpE defs Variants.none (c : Thread nD τ) none) Set.univ rest Q) -∗ wp frame (wpE defs Variants.none (c : Thread nD τ) none) Set.univ (send A t rest) Q) := by
  unfold hold todo
  iintro ⟨⟨%g, %hg, Hh⟩, Hv, ⟨%f, Ho⟩⟩ Hk
  iapply (Transfers.wp_dmaLocal EC Variants.none (c : Thread nD τ) none (src := A.half t) (dst := A.slab t)
    (via := ReadAs.same) (sm := .dma (A.osem t)) () (A.slab t).view.dmaCredit rfl
    (View.dmaCredit_pos _ (by decide)) (Finset.Subset.refl _)) $$ [Hh Hv Ho]
  · isplitl [Hh]; · iexact Hh
    isplitl [Ho]; · iexact Ho
    iexact Hv
  iintro HF
  iapply Hk
  unfold sending
  iapply (Transfers.Flight_mono EC (c : Thread nD τ) ?_) $$ HF
  unfold done halfAny
  iintro ⟨Ho, Hh⟩
  isplitr [Hh]
  · iexists _
    isplitr; swap; · iexact Ho
    ipureintro
    intro s
    rw [View.read_write_univ, ← hg s s.isLt, blk_read]
    try rfl
  iexists _; iexact Hh

theorem wp_sent (t : Nat) (rest : Prog (Eff nD τ sig F Λ) PUnit) :
    iprop(sending A c fx fl T ca t ∗ owesAny c)
      ⊢ iprop((iprop(hfree A c t ∗ done A c fx fl T ca t ∗ owesAny c) -∗ wp frame (wpE defs Variants.none (c : Thread nD τ) none) Set.univ rest Q) -∗ wp frame (wpE defs Variants.none (c : Thread nD τ) none) Set.univ (sent A t rest) Q) := by
  unfold sending owesAny hfree
  iintro ⟨HF, ⟨%W, HW⟩⟩ Hk
  iapply (Transfers.wp_waitLocal EC Variants.none (c : Thread nD τ) none (sem := A.osem t) (srcw := A.half t)
    (dstw := A.slab t) () rfl) $$ [HF HW]
  · isplitl [HF]; · iexact HF
    iexact HW
  iintro ⟨⟨Ho, Hh⟩, Hv, HW⟩
  iapply Hk
  isplitl [Hh Hv]
  · isplitl [Hh]; · iexact Hh
    iexact Hv
  isplitl [Ho]; · iexact Ho
  iexists _; iexact HW

end Cert.Sched
-- ==== Proof.Run.lean ====
/-
  The whole schedule run: from the buffers cut into their pieces to the result's slabs, each holding what the
  kernel computes for its step.
-/
module

public import proofs.«01_k».proof.Proof.Rules

@[expose] public section

noncomputable section

namespace Cert.Sched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (Pipeline.UD sig nD τ) ℕ

variable (A : Args sig) (c : Dev nD)
  (fx : Buf (Elt F) (A.x.view.loc (c : Thread nD τ))) (fl : Buf (Elt F) (A.lab.view.loc (c : Thread nD τ)))
  (T : Vec F SC .f32 → Vec F BX4 .f32 → Vec F BL .i32 → Vec F BO .f32) (ca : Vec F SC .f32)

/-- A slot's semaphore at zero. -/
def semv (t s : Nat) : sProp 𝕄 := semVal ((c : Thread nD τ), .dma (A.sem t s)) 0

/-- The eight slots of step `t`, free. -/
def Fr (t : Nat) : sProp 𝕄 := iprop(bigSepL rows (slotAny A c t) ∗ bigSepL rows (semv A c t))
/-- The tokens of step `t`, at rest. -/
def X (t : Nat) : sProp 𝕄 := bigSepL rows (xt A c fx t)
/-- The eight slots of step `t`: being filled, or free when there is no such step. -/
def R (t : Nat) : sProp 𝕄 := if t < 32 then bigSepL rows (fly A c fx t) else Fr A c t
/-- The half that step `u` will compute into: still being sent from two steps before, or free. -/
def HS (u : Nat) : sProp 𝕄 := if 2 ≤ u then sending A c fx fl T ca (u - 2) else hfree A c u

/-- What is held before step `j`. -/
def St (j : Nat) : sProp 𝕄 :=
  iprop((R A c fx j ∗ R A c fx (j + 1) ∗ R A c fx (j + 2) ∗ R A c fx (j + 3) ∗ R A c fx (j + 4)) ∗ Fr A c (j + 5)
    ∗ HS A c fx fl T ca j ∗ HS A c fx fl T ca (j + 1)
    ∗ bigSep (Finset.Ico (j + 5) 32) (X A c fx) ∗ bigSep (Finset.range j) (X A c fx)
    ∗ bigSep (Finset.Ico j 32) (todo A c) ∗ bigSep (Finset.range (j - 2)) (done A c fx fl T ca)
    ∗ labs A c fl ∗ owesAny c)

variable (defs : Defs nD τ sig (Elt F) Λ) (Q : PUnit.{1} → sProp (MT nD τ sig Unit (Elt F) ℕ (Pipeline.UD sig nD τ) ℕ))

/-! ## A row of starts, of waits, of tiles -/

theorem wp_starts (t : Nat) (rest : Prog (Eff nD τ sig F Λ) PUnit) : ∀ l : List Nat,
    iprop(bigSepL l (slotAny A c t) ∗ bigSepL l (semv A c t) ∗ bigSepL l (xt A c fx t))
      ⊢ iprop((bigSepL l (fly A c fx t) -∗ wp frame (wpE defs Variants.none (c : Thread nD τ) none) Set.univ rest Q) -∗ wp frame (wpE defs Variants.none (c : Thread nD τ) none) Set.univ (l.foldr (start A t) rest) Q)
  | [] => by
    iintro ⟨H, -, -⟩ Hk
    iapply Hk; iexact H
  | s :: l => by
    rw [bigSepL_cons', bigSepL_cons', bigSepL_cons', bigSepL_cons']
    iintro ⟨⟨Hs, Hl⟩, ⟨Hv, Hvl⟩, ⟨Hx, Hxl⟩⟩ Hk
    iapply (wp_start A c fx defs Q t s (l.foldr (start A t) rest)) $$ [Hs Hv Hx]
    · unfold free
      isplitl [Hs Hv]
      · isplitl [Hs]; · iexact Hs
        unfold semv; iexact Hv
      iexact Hx
    iintro HF
    iapply (wp_starts t rest l) $$ [Hl Hvl Hxl]
    · isplitl [Hl]; · iexact Hl
      isplitl [Hvl]; · iexact Hvl
      iexact Hxl
    iintro HFl
    iapply Hk
    isplitl [HF]; · iexact HF
    iexact HFl

theorem wp_awaits (t : Nat) (rest : Prog (Eff nD τ sig F Λ) PUnit) : ∀ l : List Nat,
    iprop(bigSepL l (fly A c fx t) ∗ owesAny c)
      ⊢ iprop((iprop(bigSepL l (full A c fx t) ∗ bigSepL l (semv A c t) ∗ bigSepL l (xt A c fx t) ∗ owesAny c) -∗ wp frame (wpE defs Variants.none (c : Thread nD τ) none) Set.univ rest Q)
        -∗ wp frame (wpE defs Variants.none (c : Thread nD τ) none) Set.univ (l.foldr (await A t) rest) Q)
  | [] => by
    iintro ⟨H, Ho⟩ Hk
    iapply Hk
    isplitl [H]; · iexact H
    isplitr; · iempintro
    isplitr; · iempintro
    iexact Ho
  | s :: l => by
    rw [bigSepL_cons', bigSepL_cons', bigSepL_cons', bigSepL_cons']
    iintro ⟨⟨HF, HFl⟩, Ho⟩ Hk
    iapply (wp_await A c fx defs Q t s (l.foldr (await A t) rest)) $$ [HF Ho]
    · isplitl [HF]; · iexact HF
      iexact Ho
    iintro ⟨⟨Hs, Hv⟩, Hx, Ho⟩
    iapply (wp_awaits t rest l) $$ [HFl Ho]
    · isplitl [HFl]; · iexact HFl
      iexact Ho
    iintro ⟨Hl, Hvl, Hxl, Ho⟩
    iapply Hk
    isplitl [Hs Hl]
    · isplitl [Hs]; · iexact Hs
      iexact Hl
    isplitl [Hv Hvl]
    · isplitl [Hv]; · unfold semv; iexact Hv
      iexact Hvl
    isplitl [Hx Hxl]
    · isplitl [Hx]; · iexact Hx
      iexact Hxl
    iexact Ho

theorem wp_computes (t : Nat) (rest : Prog (Eff nD τ sig F Λ) PUnit) : ∀ n k : Nat, k + n = 8 →
    iprop(bigSepL (List.range' k n) (full A c fx t) ∗ labs A c fl ∗ hold A c fx fl T ca t k)
      ⊢ iprop((iprop(bigSepL (List.range' k n) (slotAny A c t) ∗ labs A c fl ∗ hold A c fx fl T ca t 8) -∗ wp frame (wpE defs Variants.none (c : Thread nD τ) none) Set.univ rest Q)
        -∗ wp frame (wpE defs Variants.none (c : Thread nD τ) none) Set.univ ((List.range' k n).foldr (compute A T ca t) rest) Q)
  | 0, k, hk => by
    obtain rfl : k = 8 := hk
    iintro ⟨H, Hl, Hh⟩ Hk
    iapply Hk
    isplitl [H]; · iexact H
    isplitl [Hl]; · iexact Hl
    iexact Hh
  | n + 1, k, hk => by
    rw [List.range'_succ, bigSepL_cons', bigSepL_cons']
    iintro ⟨⟨Hf, Hfl⟩, Hl, Hh⟩ Hk
    iapply (wp_compute A c fx fl T ca defs Q t k (by omega) ((List.range' (k + 1) n).foldr (compute A T ca t) rest)) $$ [Hf Hl Hh]
    · isplitl [Hf]; · iexact Hf
      isplitl [Hl]; · iexact Hl
      iexact Hh
    iintro ⟨Hs, Hl, Hh⟩
    iapply (wp_computes t rest n (k + 1) (by omega)) $$ [Hfl Hl Hh]
    · isplitl [Hfl]; · iexact Hfl
      isplitl [Hl]; · iexact Hl
      iexact Hh
    iintro ⟨Hsl, Hl, Hh⟩
    iapply Hk
    isplitl [Hs Hsl]
    · isplitl [Hs]; · iexact Hs
      iexact Hsl
    isplitl [Hl]; · iexact Hl
    iexact Hh

/-! ## The rings close -/

theorem slot_mod (t s : Nat) : A.slot (t + 6) s = A.slot t s := by
  unfold Args.slot
  rw [Memref.slice_unit_congr A.buf (by rw [Nat.add_mod_right]) _ (inbSlot t s)]

theorem sem_mod (t s : Nat) : A.sem (t + 6) s = A.sem t s := by
  unfold Args.sem
  rw [SemArray.slice_unit_congr A.sems (by rw [Nat.add_mod_right]) _ (inbSem t s)]

theorem half_mod (t : Nat) : A.half (t + 2) = A.half t := by
  unfold Args.half
  rw [Memref.slice_unit_congr A.obuf (by rw [Nat.add_mod_right]) _ (inbHalf t)]

theorem osem_mod (t : Nat) : A.osem (t + 2) = A.osem t := by
  unfold Args.osem
  rw [SemArray.slice_unit_congr A.osems (by rw [Nat.add_mod_right]) _ (inbSem2 t)]

theorem Fr_mod (t : Nat) : (Fr A c (t + 6) : sProp 𝕄) = Fr A c t := by
  have h1 : (slotAny A c (t + 6) : Nat → sProp 𝕄) = slotAny A c t := by
    funext s; unfold slotAny; rw [slot_mod]
  have h2 : (semv A c (t + 6) : Nat → sProp 𝕄) = semv A c t := by
    funext s; unfold semv; rw [sem_mod]
  unfold Fr; rw [h1, h2]

theorem hfree_mod (t : Nat) : (hfree A c (t + 2) : sProp 𝕄) = hfree A c t := by
  unfold hfree halfAny; rw [half_mod, osem_mod]

/-! ## One step -/

theorem R_lt {t : Nat} (h : t < 32) : (R A c fx t : sProp 𝕄) = bigSepL rows (fly A c fx t) := if_pos h
theorem R_ge {t : Nat} (h : ¬ t < 32) : (R A c fx t : sProp 𝕄) = Fr A c t := if_neg h

/-- The head of what is left of a family. -/
theorem Ico_head {M : Type} [URA M] (Φ : ℕ → sProp M) {j : ℕ} (h : j < 32) :
    bigSep (Finset.Ico j 32) Φ = iprop(Φ j ∗ bigSep (Finset.Ico (j + 1) 32) Φ) := by
  rw [show Finset.Ico j 32 = insert j (Finset.Ico (j + 1) 32) by
    ext x; simp only [Finset.mem_insert, Finset.mem_Ico]; omega, bigSep_insert (by simp)]; rfl

/-- One more of a family. -/
theorem range_last {M : Type} [URA M] (Φ : ℕ → sProp M) (j : ℕ) :
    bigSep (Finset.range (j + 1)) Φ = iprop(Φ j ∗ bigSep (Finset.range j) Φ) := by
  rw [Finset.range_add_one, bigSep_insert (by simp)]; rfl

/-- Fetching ahead. -/
theorem wp_ahead (j : Nat) (rest : Prog (Eff nD τ sig F Λ) PUnit) :
    iprop(Fr A c (j + 5) ∗ bigSep (Finset.Ico (j + 5) 32) (X A c fx))
      ⊢ iprop((iprop(R A c fx (j + 5) ∗ bigSep (Finset.Ico (j + 6) 32) (X A c fx)) -∗ wp frame (wpE defs Variants.none (c : Thread nD τ) none) Set.univ rest Q)
        -∗ wp frame (wpE defs Variants.none (c : Thread nD τ) none) Set.univ (bif Nat.blt (j + 5) 32 then rows.foldr (start A (j + 5)) rest else rest) Q) := by
  by_cases h : j + 5 < 32
  · rw [show Nat.blt (j + 5) 32 = true from Nat.blt_eq.mpr h, cond_true, R_lt A c fx h, Ico_head _ h]
    unfold Fr X
    iintro ⟨⟨Hs, Hv⟩, ⟨Hx, HX⟩⟩ Hk
    iapply (wp_starts A c fx defs Q (j + 5) rest rows) $$ [Hs Hv Hx]
    · isplitl [Hs]; · iexact Hs
      isplitl [Hv]; · iexact Hv
      iexact Hx
    iintro HF
    iapply Hk
    isplitl [HF]; · iexact HF
    iexact HX
  · rw [show Nat.blt (j + 5) 32 = false from by
      rw [← Bool.not_eq_true, Nat.blt_eq]; exact h, cond_false, R_ge A c fx h,
      Finset.Ico_eq_empty (by omega), Finset.Ico_eq_empty (by omega)]
    iintro ⟨HF, HX⟩ Hk
    iapply Hk
    isplitl [HF]; · iexact HF
    iexact HX

/-- Freeing the half a step computes into. -/
theorem wp_free (j : Nat) (rest : Prog (Eff nD τ sig F Λ) PUnit) :
    iprop(HS A c fx fl T ca j ∗ bigSep (Finset.range (j - 2)) (done A c fx fl T ca) ∗ owesAny c)
      ⊢ iprop((iprop(hfree A c j ∗ bigSep (Finset.range (j + 1 - 2)) (done A c fx fl T ca) ∗ owesAny c) -∗ wp frame (wpE defs Variants.none (c : Thread nD τ) none) Set.univ rest Q)
        -∗ wp frame (wpE defs Variants.none (c : Thread nD τ) none) Set.univ (bif Nat.ble 2 j then sent A (j - 2) rest else rest) Q) := by
  by_cases h : 2 ≤ j
  · rw [show Nat.ble 2 j = true from Nat.ble_eq.mpr h, cond_true,
      show (HS A c fx fl T ca j : sProp 𝕄) = sending A c fx fl T ca (j - 2) from if_pos h,
      show j + 1 - 2 = (j - 2) + 1 by omega, range_last,
      show (hfree A c j : sProp 𝕄) = hfree A c (j - 2) by
        rw [← hfree_mod A c (j - 2), Nat.sub_add_cancel h]]
    iintro ⟨HS, HD, Ho⟩ Hk
    iapply (wp_sent A c fx fl T ca defs Q (j - 2) rest) $$ [HS Ho]
    · isplitl [HS]; · iexact HS
      iexact Ho
    iintro ⟨Hh, Hd, Ho⟩
    iapply Hk
    isplitl [Hh]; · iexact Hh
    isplitl [Hd HD]
    · isplitl [Hd]; · iexact Hd
      iexact HD
    iexact Ho
  · rw [show Nat.ble 2 j = false from by
      rw [← Bool.not_eq_true, Nat.ble_eq]; exact h, cond_false,
      show (HS A c fx fl T ca j : sProp 𝕄) = hfree A c j from if_neg h,
      show j - 2 = 0 by omega, show j + 1 - 2 = 0 by omega]
    iintro H Hk
    iapply Hk
    iexact H

/-- One step of the schedule. -/
theorem wp_step (j : Nat) (hj : j < 32) (rest : Prog (Eff nD τ sig F Λ) PUnit) :
    St A c fx fl T ca j ⊢ iprop((St A c fx fl T ca (j + 1) -∗ wp frame (wpE defs Variants.none (c : Thread nD τ) none) Set.univ rest Q) -∗ wp frame (wpE defs Variants.none (c : Thread nD τ) none) Set.univ (step A T ca j rest) Q) := by
  unfold St step
  rw [Ico_head (todo A c) hj, range_last (X A c fx), R_lt A c fx hj,
    show j + 1 + 5 = j + 6 from rfl, Fr_mod,
    show (HS A c fx fl T ca (j + 1 + 1) : sProp 𝕄) = sending A c fx fl T ca j from if_pos (by omega)]
  iintro ⟨⟨H0, H1, H2, H3, H4⟩, H5, HS0, HS1, HX, HXd, ⟨Ht, HT⟩, HD, Hl, Ho⟩ Hk
  iapply (wp_ahead A c fx defs Q j) $$ [H5 HX]
  · isplitl [H5]; · iexact H5
    iexact HX
  iintro ⟨H5, HX⟩
  iapply (wp_awaits A c fx defs Q j _ rows) $$ [H0 Ho]
  · isplitl [H0]; · iexact H0
    iexact Ho
  iintro ⟨Hf, Hv, Hx, Ho⟩
  iapply (wp_free A c fx fl T ca defs Q j) $$ [HS0 HD Ho]
  · isplitl [HS0]; · iexact HS0
    isplitl [HD]; · iexact HD
    iexact Ho
  iintro ⟨Hh, HD, Ho⟩
  unfold hfree halfAny
  icases Hh with ⟨⟨%g, Hh⟩, Hhv⟩
  iapply (wp_computes A c fx fl T ca defs Q j _ 8 0 rfl) $$ [Hf Hl Hh]
  · isplitl [Hf]; · iexact Hf
    isplitl [Hl]; · iexact Hl
    unfold hold
    iexists g
    isplitr
    · ipureintro; intro s hs; exact absurd hs (Nat.not_lt_zero s)
    iexact Hh
  iintro ⟨Hs, Hl, Hh⟩
  iapply (wp_send A c fx fl T ca defs Q j rest) $$ [Hh Hhv Ht]
  · isplitl [Hh]; · iexact Hh
    isplitl [Hhv]; · iexact Hhv
    iexact Ht
  iintro HS2
  iapply Hk
  isplitl [H1 H2 H3 H4 H5]
  · isplitl [H1]; · iexact H1
    isplitl [H2]; · iexact H2
    isplitl [H3]; · iexact H3
    isplitl [H4]; · iexact H4
    iexact H5
  isplitl [Hs Hv]
  · unfold Fr
    isplitl [Hs]; · iexact Hs
    iexact Hv
  isplitl [HS1]; · iexact HS1
  isplitl [HS2]; · iexact HS2
  isplitl [HX]; · iexact HX
  isplitl [Hx HXd]
  · isplitl [Hx]
    · unfold X; iexact Hx
    iexact HXd
  isplitl [HT]; · iexact HT
  isplitl [HD]; · iexact HD
  isplitl [Hl]; · iexact Hl
  iexact Ho

/-- All the steps from `j` on. -/
theorem wp_steps (rest : Prog (Eff nD τ sig F Λ) PUnit) : ∀ n j : Nat, j + n = 32 →
    (St A c fx fl T ca j : sProp 𝕄)
      ⊢ iprop((St A c fx fl T ca 32 -∗ wp frame (wpE defs Variants.none (c : Thread nD τ) none) Set.univ rest Q) -∗ wp frame (wpE defs Variants.none (c : Thread nD τ) none) Set.univ ((List.range' j n).foldr (step A T ca) rest) Q)
  | 0, j, hj => by
    obtain rfl : j = 32 := hj
    iintro H Hk
    iapply Hk; iexact H
  | n + 1, j, hj => by
    rw [List.range'_succ]
    iintro H Hk
    iapply (wp_step A c fx fl T ca defs Q j (by omega) ((List.range' (j + 1) n).foldr (step A T ca) rest)) $$ H
    iintro H
    iapply (wp_steps rest n (j + 1) (by omega)) $$ H
    iexact Hk

/-- The first five steps' tokens are fetched before the loop. -/
theorem wp_warm (rest : Prog (Eff nD τ sig F Λ) PUnit) : ∀ n j : Nat, j + n = 5 →
    iprop(bigSepL (List.range' j n) (Fr A c) ∗ bigSep (Finset.Ico j 32) (X A c fx))
      ⊢ iprop((iprop(bigSepL (List.range' j n) (R A c fx) ∗ bigSep (Finset.Ico 5 32) (X A c fx)) -∗ wp frame (wpE defs Variants.none (c : Thread nD τ) none) Set.univ rest Q)
        -∗ wp frame (wpE defs Variants.none (c : Thread nD τ) none) Set.univ ((List.range' j n).foldr (fun j r => rows.foldr (start A j) r) rest) Q)
  | 0, j, hj => by
    obtain rfl : j = 5 := hj
    iintro ⟨H, HX⟩ Hk
    iapply Hk
    isplitl [H]; · iexact H
    iexact HX
  | n + 1, j, hj => by
    rw [List.range'_succ, bigSepL_cons', bigSepL_cons', Ico_head _ (show j < 32 by omega), R_lt A c fx (show j < 32 by omega)]
    unfold Fr X
    iintro ⟨⟨⟨Hs, Hv⟩, HF⟩, ⟨Hx, HX⟩⟩ Hk
    iapply (wp_starts A c fx defs Q j _ rows) $$ [Hs Hv Hx]
    · isplitl [Hs]; · iexact Hs
      isplitl [Hv]; · iexact Hv
      iexact Hx
    iintro H0
    iapply (wp_warm rest n (j + 1) (by omega)) $$ [HF HX]
    · unfold Fr X
      isplitl [HF]; · iexact HF
      iexact HX
    iintro ⟨HR, HX⟩
    iapply Hk
    isplitl [H0 HR]
    · isplitl [H0]; · iexact H0
      iexact HR
    unfold X
    iexact HX

/-! ## The whole body -/

theorem steps_eq : [0, 1, 2, 3, 4, 5, 6, 7, 8, 9, 10, 11, 12, 13, 14, 15, 16, 17, 18, 19, 20, 21, 22, 23, 24, 25, 26, 27,
    28, 29, 30, 31] = List.range' 0 32 := by decide

theorem warm_eq : [0, 1, 2, 3, 4] = List.range' 0 5 := by decide

theorem body_range : (body A T : Prog (Eff nD τ sig F Λ) PUnit) = .op (.load A.ca caRect.toLoadRect (View.loadsAt_vmem posC)) (fun ca =>
    (List.range' 0 5).foldr (fun j r => rows.foldr (start A j) r)
      ((List.range' 0 32).foldr (step A T ca) (sent A 30 (sent A 31 (.ret ⟨⟩))))) := by
  unfold body
  rw [← steps_eq, ← warm_eq]

theorem six_eq (Φ : Nat → sProp 𝕄) :
    bigSepL [0, 1, 2, 3, 4, 5] Φ = iprop(Φ 0 ∗ Φ 1 ∗ Φ 2 ∗ Φ 3 ∗ Φ 4 ∗ Φ 5) := rfl

theorem five_eq (Φ : Nat → sProp 𝕄) :
    bigSepL (List.range' 0 5) Φ = iprop(Φ 0 ∗ Φ 1 ∗ Φ 2 ∗ Φ 3 ∗ Φ 4) := rfl

/-- The prototypes, at rest. -/
def cas (fc : Buf (Elt F) (A.ca.view.loc (c : Thread nD τ))) : sProp 𝕄 :=
  A.ca.view.loc (c : Thread nD τ) ↦[A.ca.view.set]{fullShare} fc

/-- What the body leaves: every slot and half free, the tokens, and the result's slabs. -/
def After : sProp 𝕄 :=
  iprop(bigSepL [0, 1, 2, 3, 4, 5] (Fr A c) ∗ (hfree A c 0 ∗ hfree A c 1)
    ∗ bigSep (Finset.range 32) (X A c fx) ∗ bigSep (Finset.range 32) (done A c fx fl T ca)
    ∗ labs A c fl ∗ owesAny c)

/-- What the body starts from. -/
def Before : sProp 𝕄 :=
  iprop(bigSepL [0, 1, 2, 3, 4, 5] (Fr A c) ∗ (hfree A c 0 ∗ hfree A c 1)
    ∗ bigSep (Finset.range 32) (X A c fx) ∗ bigSep (Finset.range 32) (todo A c)
    ∗ labs A c fl ∗ owesAny c)

theorem wp_body (fc : Buf (Elt F) (A.ca.view.loc (c : Thread nD τ))) :
    iprop(Before A c fx fl ∗ cas A c fc)
      ⊢ iprop((iprop(After A c fx fl T ((A.ca.access caRect).read (Elt F) fc) ∗ cas A c fc) -∗ Q ⟨⟩)
        -∗ wp frame (wpE defs Variants.none (c : Thread nD τ) none) Set.univ (body A T) Q) := by
  have hF : ∀ t, (Fr A c (t + 6) : sProp 𝕄) = Fr A c t := Fr_mod A c
  have h32 : (Fr A c 32 : sProp 𝕄) = Fr A c 2 := by rw [hF 26, hF 20, hF 14, hF 8, hF 2]
  have h33 : (Fr A c 33 : sProp 𝕄) = Fr A c 3 := by rw [hF 27, hF 21, hF 15, hF 9, hF 3]
  have h34 : (Fr A c 34 : sProp 𝕄) = Fr A c 4 := by rw [hF 28, hF 22, hF 16, hF 10, hF 4]
  have h35 : (Fr A c 35 : sProp 𝕄) = Fr A c 5 := by rw [hF 29, hF 23, hF 17, hF 11, hF 5]
  have h36 : (Fr A c 36 : sProp 𝕄) = Fr A c 0 := by rw [hF 30, hF 24, hF 18, hF 12, hF 6, hF 0]
  have h37 : (Fr A c 37 : sProp 𝕄) = Fr A c 1 := by rw [hF 31, hF 25, hF 19, hF 13, hF 7, hF 1]
  have hH : ∀ n, (hfree A c (2 * n) : sProp 𝕄) = hfree A c 0 := by
    intro n; induction n with
    | zero => rfl
    | succ n ih => rw [show 2 * (n + 1) = 2 * n + 2 by omega, hfree_mod, ih]
  have hH1 : ∀ n, (hfree A c (2 * n + 1) : sProp 𝕄) = hfree A c 1 := by
    intro n; induction n with
    | zero => rfl
    | succ n ih => rw [show 2 * (n + 1) + 1 = 2 * n + 1 + 2 by omega, hfree_mod, ih]
  have h5 := wp_warm A c fx defs Q ((List.range' 0 32).foldr (step A T ((A.ca.access caRect).read (Elt F) fc)) (sent A 30 (sent A 31 (.ret ⟨⟩)))) 5 0 rfl
  rw [five_eq, five_eq] at h5
  unfold Before cas
  rw [body_range, Finset.range_eq_Ico, six_eq]
  iintro ⟨⟨⟨F0, F1, F2, F3, F4, F5⟩, ⟨Hh0, Hh1⟩, HX, HT, Hl, Ho⟩, Hc⟩ Hk
  iapply (wp_load_rect Variants.none (c : Thread nD τ) none Set.univ (m := A.ca) (r := caRect)
    (S := A.ca.view.set) (View.set_slice_subset (v := A.ca.view) caRect)) $$ Hc
  iintro Hc
  iapply h5 $$ [F0 F1 F2 F3 F4 HX]
  · isplitr [HX]; swap; · iexact HX
    isplitl [F0]; · iexact F0
    isplitl [F1]; · iexact F1
    isplitl [F2]; · iexact F2
    isplitl [F3]; · iexact F3
    iexact F4
  iintro ⟨⟨R0, R1, R2, R3, R4⟩, HX⟩
  iapply (wp_steps A c fx fl T ((A.ca.access caRect).read (Elt F) fc) defs Q _ 32 0 rfl) $$ [R0 R1 R2 R3 R4 F5 Hh0 Hh1 HX HT Hl Ho]
  · unfold St
    isplitl [R0 R1 R2 R3 R4]
    · isplitl [R0]; · iexact R0
      isplitl [R1]; · iexact R1
      isplitl [R2]; · iexact R2
      isplitl [R3]; · iexact R3
      iexact R4
    isplitl [F5]; · iexact F5
    isplitl [Hh0]
    · rw [show HS A c fx fl T ((A.ca.access caRect).read (Elt F) fc) 0 = hfree A c 0 from if_neg (by omega)]; iexact Hh0
    isplitl [Hh1]
    · rw [show HS A c fx fl T ((A.ca.access caRect).read (Elt F) fc) (0 + 1) = hfree A c 1 from if_neg (by omega)]; iexact Hh1
    isplitl [HX]; · iexact HX
    isplitr
    · rw [Finset.range_zero, bigSep_empty]; iempintro
    isplitl [HT]; · iexact HT
    isplitr
    · rw [Nat.zero_sub, Finset.range_zero, bigSep_empty]; iempintro
    isplitl [Hl]; · iexact Hl
    iexact Ho
  unfold St
  rw [R_ge A c fx (show ¬ 32 < 32 by omega), R_ge A c fx (show ¬ 32 + 1 < 32 by omega), R_ge A c fx (show ¬ 32 + 2 < 32 by omega),
    R_ge A c fx (show ¬ 32 + 3 < 32 by omega), R_ge A c fx (show ¬ 32 + 4 < 32 by omega),
    show HS A c fx fl T ((A.ca.access caRect).read (Elt F) fc) 32 = sending A c fx fl T ((A.ca.access caRect).read (Elt F) fc) 30 from if_pos (by omega),
    show HS A c fx fl T ((A.ca.access caRect).read (Elt F) fc) (32 + 1) = sending A c fx fl T ((A.ca.access caRect).read (Elt F) fc) 31 from if_pos (by omega),
    h32, show 32 + 1 = 33 from rfl, h33, show 32 + 2 = 34 from rfl, h34, show 32 + 3 = 35 from rfl, h35,
    show 32 + 4 = 36 from rfl, h36, show 32 + 5 = 37 from rfl, h37]
  iintro ⟨⟨F2, F3, F4, F5, F0⟩, F1, HS0, HS1, -, HX, -, HD, Hl, Ho⟩
  iapply (wp_sent A c fx fl T ((A.ca.access caRect).read (Elt F) fc) defs Q 30) $$ [HS0 Ho]
  · isplitl [HS0]; · iexact HS0
    iexact Ho
  iintro ⟨Hh0, Hd0, Ho⟩
  iapply (wp_sent A c fx fl T ((A.ca.access caRect).read (Elt F) fc) defs Q 31) $$ [HS1 Ho]
  · isplitl [HS1]; · iexact HS1
    iexact Ho
  iintro ⟨Hh1, Hd1, Ho⟩
  iapply (Idealize.SL.Sem.le_wp_ret)
  iapply Hk
  isplitr [Hc]; swap; · iexact Hc
  unfold After
  rw [six_eq]
  isplitl [F0 F1 F2 F3 F4 F5]
  · isplitl [F0]; · iexact F0
    isplitl [F1]; · iexact F1
    isplitl [F2]; · iexact F2
    isplitl [F3]; · iexact F3
    isplitl [F4]; · iexact F4
    iexact F5
  isplitl [Hh0 Hh1]
  · rw [← hH 15, ← hH1 15]
    isplitl [Hh0]; · iexact Hh0
    iexact Hh1
  isplitl [HX]; · iexact HX
  isplitl [HD Hd0 Hd1]
  · rw [range_last _ 31, range_last _ 30]
    isplitl [Hd1]; · iexact Hd1
    isplitl [Hd0]; · iexact Hd0
    iexact HD
  isplitl [Hl]; · iexact Hl
  iexact Ho

end Cert.Sched
-- ==== Proof.Cut.lean ====
/-
  The buffers whole and the buffers cut: the slots, the halves, the token windows and the result's slabs are the
  pieces of their buffers, and the schedule's run is restated from whole buffers to whole buffers.
-/
module

public import proofs.«01_k».proof.Proof.Run

@[expose] public section

noncomputable section

namespace Cert.Sched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)

variable {nD : Nat} {τ : Topo} {sig : RefSig} {Λ : Labels} {F : FTy → Type} [FloatOps F]

local notation "𝕄" => MT nD τ sig Unit (Elt F) ℕ (Pipeline.UD sig nD τ) ℕ

/-! ## Families over numbers -/

/-- A family over the first `n` numbers, taken as a finite type. -/
theorem bigSep_range (n : Nat) (Φ : Nat → sProp 𝕄) :
    bigSep (Finset.univ : Finset (Fin n)) (fun t => Φ t.val) = bigSep (Finset.range n) Φ := by
  rw [show Finset.range n = (Finset.univ : Finset (Fin n)).map Fin.valEmbedding from ?_, bigSep_map]
  · rfl
  ext k
  simp only [Finset.mem_range, Finset.mem_map, Finset.mem_univ, true_and]
  exact ⟨fun h => ⟨⟨k, h⟩, rfl⟩, fun ⟨i, hi⟩ => hi ▸ i.isLt⟩

theorem range_rows (Φ : Nat → sProp 𝕄) : bigSep (Finset.range 8) Φ = bigSepL rows Φ :=
  BI.bigSep_eq_bigSepL_of_eq rows (by decide) (by decide) Φ

theorem range_six (Φ : Nat → sProp 𝕄) : bigSep (Finset.range 6) Φ = bigSepL [0, 1, 2, 3, 4, 5] Φ :=
  BI.bigSep_eq_bigSepL_of_eq [0, 1, 2, 3, 4, 5] (by decide) (by decide) Φ

theorem range_two (Φ : Nat → sProp 𝕄) : bigSep (Finset.range 2) Φ = iprop(Φ 0 ∗ Φ 1) :=
  BI.bigSep_eq_bigSepL_of_eq [0, 1] (by decide) (by decide) Φ

/-- Steps and batch rows, as pairs and as rows of steps. -/
theorem bigSep_pairs (n : Nat) (Φ : Nat → Nat → sProp 𝕄) :
    bigSep (Finset.univ : Finset (Fin n × Fin 8)) (fun b => Φ b.1.val b.2.val)
      = bigSep (Finset.range n) (fun t => bigSepL rows (Φ t)) := by
  rw [bigSep_univ_prod, ← bigSep_range n]
  exact bigSep_congr fun t _ => (bigSep_range 8 (Φ t.val)).trans (range_rows _)

/-- A list of lists, one list after another. -/
theorem bigSepL_flat {J : Type} (f : Nat → List J) (Φ : J → sProp 𝕄) : ∀ l : List Nat,
    bigSepL (l.flatMap f) Φ = bigSepL l (fun k => bigSepL (f k) Φ)
  | [] => rfl
  | k :: l => by rw [List.flatMap_cons, bigSepL_append, bigSepL_cons', bigSepL_flat f Φ l]

variable (A : Args sig) (c : Dev nD)
  (fx : Buf (Elt F) (A.x.view.loc (c : Thread nD τ))) (fl : Buf (Elt F) (A.lab.view.loc (c : Thread nD τ)))
  (T : Vec F SC .f32 → Vec F BX4 .f32 → Vec F BL .i32 → Vec F BO .f32) (ca : Vec F SC .f32)

/-! ## The pieces are disjoint -/

/-- The elements of a token window. -/
abbrev xset (b : Fin 32 × Fin 8) : Finset (Idx (A.x.view.loc (c : Thread nD τ))) := (A.xwin b.2.val b.1.val).view.set
/-- The elements of a slot. -/
abbrev slotset (b : Fin 6 × Fin 8) : Finset (Idx (A.buf.view.loc (c : Thread nD τ))) := (A.slot b.1.val b.2.val).view.set
/-- The elements of a half. -/
abbrev halfset (t : Fin 2) : Finset (Idx (A.obuf.view.loc (c : Thread nD τ))) := (A.half t.val).view.set
/-- The elements of a slab. -/
abbrev slabset (t : Fin 32) : Finset (Idx (A.out.view.loc (c : Thread nD τ))) := (A.slab t.val).view.set

theorem slice_disj {sp : Space} {s : Shape} {e : EltTy} (v : View sig .tc sp s e) {r r' : Rect s} (h : Disjoint r.set r'.set) :
    Disjoint (v.slice r).set (v.slice r').set := by
  rw [View.set_slice, View.set_slice]
  exact (Finset.disjoint_map _).mpr h

theorem pair_ne {n : Nat} {b b' : Fin n × Fin 8} (h : b ≠ b') : b.1.val ≠ b'.1.val ∨ b.2.val ≠ b'.2.val := by
  by_contra hc
  have hc : b.1.val = b'.1.val ∧ b.2.val = b'.2.val := by omega
  exact h (Prod.ext (Fin.ext hc.1) (Fin.ext hc.2))

theorem xset_disj (b b' : Fin 32 × Fin 8) (h : b ≠ b') : Disjoint (xset (τ := τ) A c b) (xset (τ := τ) A c b') := by
  have := b.1.isLt; have := b.2.isLt; have := b'.1.isLt; have := b'.2.isLt
  unfold xset
  rw [View.set_reshape, View.set_reshape]
  refine slice_disj A.x.view ?_
  rcases pair_ne h with h | h
  · refine Rect.unit_disjoint (1 : Fin 3) ?_
    show 128 * (b.1.val % 32) + 128 ≤ 128 * (b'.1.val % 32) ∨ 128 * (b'.1.val % 32) + 128 ≤ 128 * (b.1.val % 32)
    omega
  · refine Rect.unit_disjoint (0 : Fin 3) ?_
    show b.2.val % 8 + 1 ≤ b'.2.val % 8 ∨ b'.2.val % 8 + 1 ≤ b.2.val % 8
    omega

theorem slotset_disj (b b' : Fin 6 × Fin 8) (h : b ≠ b') : Disjoint (slotset (τ := τ) A c b) (slotset (τ := τ) A c b') := by
  have := b.1.isLt; have := b.2.isLt; have := b'.1.isLt; have := b'.2.isLt
  unfold slotset
  rw [View.set_reshape, View.set_reshape]
  refine slice_disj A.buf.view ?_
  rcases pair_ne h with h | h
  · refine Rect.unit_disjoint (0 : Fin 4) ?_
    show b.1.val % 6 + 1 ≤ b'.1.val % 6 ∨ b'.1.val % 6 + 1 ≤ b.1.val % 6
    omega
  · refine Rect.unit_disjoint (1 : Fin 4) ?_
    show b.2.val % 8 + 1 ≤ b'.2.val % 8 ∨ b'.2.val % 8 + 1 ≤ b.2.val % 8
    omega

theorem halfset_disj (t t' : Fin 2) (h : t ≠ t') : Disjoint (halfset (τ := τ) A c t) (halfset (τ := τ) A c t') := by
  have := t.isLt; have := t'.isLt
  have h : t.val ≠ t'.val := fun e => h (Fin.ext e)
  unfold halfset
  rw [View.set_reshape, View.set_reshape]
  refine slice_disj A.obuf.view (Rect.unit_disjoint (0 : Fin 4) ?_)
  show t.val % 2 + 1 ≤ t'.val % 2 ∨ t'.val % 2 + 1 ≤ t.val % 2
  omega

theorem slabset_disj (t t' : Fin 32) (h : t ≠ t') :
    Disjoint (slabset (τ := τ) A c t) (slabset (τ := τ) A c t') := by
  have := t.isLt; have := t'.isLt
  have h : t.val ≠ t'.val := fun e => h (Fin.ext e)
  refine slice_disj A.out.view (Rect.unit_disjoint (1 : Fin 3) ?_)
  show 128 * (t.val % 32) + 128 ≤ 128 * (t'.val % 32) ∨ 128 * (t'.val % 32) + 128 ≤ 128 * (t.val % 32)
  omega

/-! ## The result array -/

/-- Where an element of the result stands in its step's slab. -/
def slabIdx (i : SO.Idx) : BH.Idx :=
  ix3 (⟨(i 0).val, (i 0).isLt⟩ : Fin 8) (⟨(i 1).val % 128, Nat.mod_lt _ (by decide)⟩ : Fin 128) (⟨(i 2).val, (i 2).isLt⟩ : Fin 16)

theorem slab_emb (i : SO.Idx) : (slabRect ((i 1).val / 128)).emb (slabIdx i) = i := by
  have h1 : (i 1).val < 4096 := (i 1).isLt
  funext a
  fin_cases a <;> apply Fin.ext <;> rw [Rect.emb_apply]
  · show 0 + 1 * (i 0).val = (i 0).val; omega
  · show 128 * ((i 1).val / 128 % 32) + 1 * ((i 1).val % 128) = (i 1).val; omega
  · show 0 + 1 * (i 2).val = (i 2).val; omega

/-- The slabs are the whole result. -/
theorem slab_cover (hout : A.out.view.set = Finset.univ) :
    (Finset.univ : Finset (Fin 32)).biUnion (slabset (nD := nD) (τ := τ) A c) = Finset.univ := by
  refine Finset.eq_univ_of_forall fun x => ?_
  have hx : x ∈ A.out.view.set := by rw [hout]; exact Finset.mem_univ _
  obtain ⟨i, -, rfl⟩ := Finset.mem_map.mp hx
  have h1 : (i 1).val < 4096 := (i 1).isLt
  refine Finset.mem_biUnion.mpr ⟨⟨(i 1).val / 128, by omega⟩, Finset.mem_univ _, ?_⟩
  have h := View.emb_mem_set (A.slab ((i 1).val / 128)).view (slabIdx i)
  have he : (A.slab ((i 1).val / 128)).view.emb (slabIdx i) = A.out.view.emb i := congrArg A.out.view.emb (slab_emb i)
  rw [he] at h
  exact h

/-- What the kernel leaves of element `i` of the result: its step is `i 1 / 128`. -/
def outVal (i : SO.Idx) : F .f32 :=
  res A c fx fl T ca (i 0).val ((i 1).val / 128)
    (ix4 (0 : Fin 1) (0 : Fin 1) (⟨(i 1).val % 128, Nat.mod_lt _ (by decide)⟩ : Fin 128) (⟨(i 2).val, (i 2).isLt⟩ : Fin 16))

/-- The result array after the kernel. -/
def Out (fo : Buf (Elt F) (A.out.view.loc (c : Thread nD τ))) : Buf (Elt F) (A.out.view.loc (c : Thread nD τ)) :=
  A.out.view.write (Elt F) fo (outVal A c fx fl T ca) Finset.univ

/-- A slab that holds its step's results holds what `Out` says. -/
theorem slab_agree (fo f : Buf (Elt F) (A.out.view.loc (c : Thread nD τ))) (t : Nat) (ht : t < 32)
    (h : ∀ s : Fin 8, rowOf s ((A.slab t).view.read (Elt F) f) = res A c fx fl T ca s t) :
    ∀ i ∈ (A.slab t).view.set, f i = Out A c fx fl T ca fo i := by
  intro i hi
  obtain ⟨x, -, rfl⟩ := Finset.mem_map.mp hi
  have hx := congrFun (h ⟨(x 0).val, (x 0).isLt⟩)
    (ix4 (0 : Fin 1) (0 : Fin 1) (⟨(x 1).val, (x 1).isLt⟩ : Fin 128) (⟨(x 2).val, (x 2).isLt⟩ : Fin 16))
  have hx' : (A.slab t).view.read (Elt F) f x = res A c fx fl T ca (x 0).val t
      (ix4 (0 : Fin 1) (0 : Fin 1) (⟨(x 1).val, (x 1).isLt⟩ : Fin 128) (⟨(x 2).val, (x 2).isLt⟩ : Fin 16)) := by
    refine Eq.trans ?_ hx
    rw [rowOf]
    refine congrArg ((A.slab t).view.read (Elt F) f) ?_
    funext a; fin_cases a <;> rfl
  have hg : (A.slab t).view.read (Elt F) (Out A c fx fl T ca fo) x = outVal A c fx fl T ca ((slabRect t).emb x) :=
    congrFun (View.read_write_univ (v := A.out.view) fo (outVal A c fx fl T ca)) ((slabRect t).emb x)
  have h1 : (x 1).val < 128 := (x 1).isLt
  have e0 : ((slabRect t).emb x 0).val = (x 0).val := by
    rw [Rect.emb_apply]; show 0 + 1 * (x 0).val = (x 0).val; omega
  have e1 : ((slabRect t).emb x 1).val = 128 * t + (x 1).val := by
    rw [Rect.emb_apply]; show 128 * (t % 32) + 1 * (x 1).val = 128 * t + (x 1).val
    rw [Nat.mod_eq_of_lt ht]; omega
  have e2 : ((slabRect t).emb x 2).val = (x 2).val := by
    rw [Rect.emb_apply]; show 0 + 1 * (x 2).val = (x 2).val; omega
  have he : outVal A c fx fl T ca ((slabRect t).emb x) = res A c fx fl T ca (x 0).val t
      (ix4 (0 : Fin 1) (0 : Fin 1) (⟨(x 1).val, (x 1).isLt⟩ : Fin 128) (⟨(x 2).val, (x 2).isLt⟩ : Fin 16)) := by
    unfold outVal
    have d : ((slabRect t).emb x 1).val / 128 = t := by rw [e1]; omega
    have r : ((slabRect t).emb x 1).val % 128 = (x 1).val := by rw [e1]; omega
    rw [d, e0]
    simp only [r, e2]
  have hfin := hx'.trans (he.symm.trans hg.symm)
  rw [View.read_apply, View.read_apply] at hfin
  exact (cast_inj _).mp hfin

theorem done_out (fo : Buf (Elt F) (A.out.view.loc (c : Thread nD τ))) (t : Nat) (ht : t < 32) :
    done A c fx fl T ca t
      ⊢ ((A.slab t).view.loc (c : Thread nD τ) ↦[(A.slab t).view.set]{fullShare} (Out A c fx fl T ca fo) : sProp 𝕄) := by
  unfold done
  iintro ⟨%f, %h, H⟩
  have e : ((A.slab t).view.loc (c : Thread nD τ) ↦[(A.slab t).view.set]{fullShare} f : sProp 𝕄)
      = ((A.slab t).view.loc (c : Thread nD τ) ↦[(A.slab t).view.set]{fullShare} (Out A c fx fl T ca fo)) :=
    pointsTo_congr (ℓ := A.out.view.loc (c : Thread nD τ)) (slab_agree A c fx fl T ca fo f t ht h)
  rw [← e]
  iexact H

theorem todo_one (fo : Buf (Elt F) (A.out.view.loc (c : Thread nD τ))) (t : Nat) :
    ((A.slab t).view.loc (c : Thread nD τ) ↦[(A.slab t).view.set]{fullShare} fo : sProp 𝕄) ⊢ todo A c t := by
  unfold todo
  iintro H; iexists _; iexact H

/-! ## Whole buffers -/

/-- The whole buffers and the semaphores at zero, the result at `fo`. -/
def Whole (fo : Buf (Elt F) (A.out.view.loc (c : Thread nD τ))) : sProp 𝕄 :=
  iprop((∃ f, A.buf.view.loc (c : Thread nD τ) ↦{fullShare} f) ∗ (∃ f, A.obuf.view.loc (c : Thread nD τ) ↦{fullShare} f)
    ∗ bigSepL [0, 1, 2, 3, 4, 5] (fun t => bigSepL rows (semv A c t))
    ∗ (semVal ((c : Thread nD τ), .dma (A.osem 0)) 0 ∗ semVal ((c : Thread nD τ), .dma (A.osem 1)) 0)
    ∗ (A.x.view.loc (c : Thread nD τ) ↦{fullShare} fx) ∗ (A.out.view.loc (c : Thread nD τ) ↦{fullShare} fo))

/-- What the pieces leave of the buffers. -/
def Rest : sProp 𝕄 :=
  iprop((∃ f, A.buf.view.loc (c : Thread nD τ) ↦[Ring.restOf (slotset A c)]{fullShare} f)
    ∗ (∃ f, A.obuf.view.loc (c : Thread nD τ) ↦[Ring.restOf (halfset A c)]{fullShare} f)
    ∗ (A.x.view.loc (c : Thread nD τ) ↦[Ring.restOf (xset A c)]{fullShare} fx))

theorem x_cut : (A.x.view.loc (c : Thread nD τ) ↦{fullShare} fx : sProp 𝕄)
    ⊣⊢ iprop(bigSep (Finset.range 32) (X A c fx) ∗ (A.x.view.loc (c : Thread nD τ) ↦[Ring.restOf (xset A c)]{fullShare} fx)) := by
  have h : bigSep (Finset.range 32) (X A c fx)
      = (A.x.view.loc (c : Thread nD τ) ↦[Finset.univ.biUnion (xset A c)]{fullShare} fx : sProp 𝕄) := by
    rw [pointsTo_biUnion Finset.univ (xset A c) (fun b _ b' _ h => xset_disj A c b b' h)]
    exact (bigSep_pairs 32 (fun t s => xt A c fx t s)).symm
  rw [h]
  exact pointsTo_split_subset (Finset.subset_univ _)

theorem slots_eq : bigSep (Finset.univ : Finset (Fin 6 × Fin 8))
      (fun b => (iprop(∃ f, A.buf.view.loc (c : Thread nD τ) ↦[slotset A c b]{fullShare} f) : sProp 𝕄))
    = bigSepL [0, 1, 2, 3, 4, 5] (fun t => bigSepL rows (slotAny A c t)) :=
  (bigSep_pairs 6 (fun t s => slotAny A c t s)).trans (range_six _)

theorem halves_eq : bigSep (Finset.univ : Finset (Fin 2))
      (fun b => (iprop(∃ f, A.obuf.view.loc (c : Thread nD τ) ↦[halfset A c b]{fullShare} f) : sProp 𝕄))
    = iprop(halfAny A c 0 ∗ halfAny A c 1) :=
  (bigSep_range 2 (fun t => halfAny A c t)).trans (range_two _)

theorem Fr_eq : (bigSepL [0, 1, 2, 3, 4, 5] (Fr A c) : sProp 𝕄)
    = iprop(bigSepL [0, 1, 2, 3, 4, 5] (fun t => bigSepL rows (slotAny A c t)) ∗ bigSepL [0, 1, 2, 3, 4, 5] (fun t => bigSepL rows (semv A c t))) := by
  rw [← range_six, ← range_six, ← range_six]
  exact bigSep_sep _ _ _

theorem todo_cut (hout : A.out.view.set = Finset.univ) (fo : Buf (Elt F) (A.out.view.loc (c : Thread nD τ))) :
    (A.out.view.loc (c : Thread nD τ) ↦{fullShare} fo : sProp 𝕄)
      = bigSep (Finset.range 32) (fun t => (A.slab t).view.loc (c : Thread nD τ) ↦[(A.slab t).view.set]{fullShare} fo) := by
  rw [← bigSep_range 32, ← slab_cover A c hout]
  exact pointsTo_biUnion Finset.univ (slabset A c) (fun b _ b' _ h => slabset_disj A c b b' h)

theorem todo_of (fo : Buf (Elt F) (A.out.view.loc (c : Thread nD τ))) :
    (bigSep (Finset.range 32) (fun t => (A.slab t).view.loc (c : Thread nD τ) ↦[(A.slab t).view.set]{fullShare} fo) : sProp 𝕄)
      ⊢ bigSep (Finset.range 32) (todo A c) :=
  bigSep_mono fun t _ => todo_one A c fo t

theorem done_of (fo : Buf (Elt F) (A.out.view.loc (c : Thread nD τ))) :
    bigSep (Finset.range 32) (done A c fx fl T ca)
      ⊢ (bigSep (Finset.range 32) (fun t => (A.slab t).view.loc (c : Thread nD τ) ↦[(A.slab t).view.set]{fullShare} (Out A c fx fl T ca fo)) : sProp 𝕄) :=
  bigSep_mono fun t ht => done_out A c fx fl T ca fo t (Finset.mem_range.mp ht)

theorem cut (hout : A.out.view.set = Finset.univ) (fo : Buf (Elt F) (A.out.view.loc (c : Thread nD τ))) :
    iprop(Whole A c fx fo ∗ labs A c fl ∗ owesAny c) ⊢ iprop(Before A c fx fl ∗ Rest A c fx) := by
  unfold Whole Before Rest hfree
  rw [Fr_eq, todo_cut A c hout]
  iintro ⟨⟨Hb, Ho, Hs, ⟨Hv0, Hv1⟩, Hx, Hw⟩, Hl, HW⟩
  ihave Hb := (Ring.fam_split_ex (slotset A c) (slotset_disj A c)) $$ Hb
  ihave Ho := (Ring.fam_split_ex (halfset A c) (halfset_disj A c)) $$ Ho
  rw [slots_eq, halves_eq]
  icases Hb with ⟨Hb, Hbr⟩
  icases Ho with ⟨⟨Ho0, Ho1⟩, Hor⟩
  ihave Hx := (x_cut A c fx).1 $$ Hx
  icases Hx with ⟨Hx, Hxr⟩
  ihave Hw := (todo_of A c fo) $$ Hw
  isplitr [Hbr Hor Hxr]
  · isplitl [Hb Hs]
    · isplitl [Hb]; · iexact Hb
      iexact Hs
    isplitl [Ho0 Hv0 Ho1 Hv1]
    · isplitl [Ho0 Hv0]
      · isplitl [Ho0]; · iexact Ho0
        iexact Hv0
      isplitl [Ho1]; · iexact Ho1
      iexact Hv1
    isplitl [Hx]; · iexact Hx
    isplitl [Hw]; · iexact Hw
    isplitl [Hl]; · iexact Hl
    iexact HW
  isplitl [Hbr]; · iexact Hbr
  isplitl [Hor]; · iexact Hor
  iexact Hxr

theorem join (hout : A.out.view.set = Finset.univ) (fo : Buf (Elt F) (A.out.view.loc (c : Thread nD τ))) :
    iprop(After A c fx fl T ca ∗ Rest A c fx)
      ⊢ iprop(Whole A c fx (Out A c fx fl T ca fo) ∗ labs A c fl ∗ owesAny c) := by
  unfold Whole After Rest hfree
  rw [Fr_eq, todo_cut A c hout, ← slots_eq]
  iintro ⟨⟨⟨Hb, Hs⟩, ⟨⟨Ho0, Hv0⟩, ⟨Ho1, Hv1⟩⟩, Hx, Hw, Hl, HW⟩, ⟨⟨%rb, Hbr⟩, ⟨%ro, Hor⟩, Hxr⟩⟩
  ihave Hb := (Ring.fam_join (slotset A c) (slotset_disj A c) rb) $$ [Hb Hbr]
  · isplitl [Hb]; · iexact Hb
    iexists _; iexact Hbr
  ihave Ho := (show iprop(halfAny A c 0 ∗ halfAny A c 1) ⊢ _ from le_of_eq (halves_eq A c).symm) $$ [Ho0 Ho1]
  · isplitl [Ho0]; · iexact Ho0
    iexact Ho1
  ihave Ho := (Ring.fam_join (halfset A c) (halfset_disj A c) ro) $$ [Ho Hor]
  · isplitl [Ho]; · iexact Ho
    iexists _; iexact Hor
  ihave Hx := (x_cut A c fx).2 $$ [Hx Hxr]
  · isplitl [Hx]; · iexact Hx
    iexact Hxr
  ihave Hw := (done_of A c fx fl T ca fo) $$ Hw
  isplitr [Hl HW]
  · isplitl [Hb]; · iexact Hb
    isplitl [Ho]; · iexact Ho
    isplitl [Hs]; · iexact Hs
    isplitl [Hv0 Hv1]
    · isplitl [Hv0]; · iexact Hv0
      iexact Hv1
    isplitl [Hx]; · iexact Hx
    iexact Hw
  isplitl [Hl]; · iexact Hl
  iexact HW

/-- The kernel's body, from the whole buffers to the whole buffers: the result ends at `Out`. -/
theorem wp_whole (defs : Defs nD τ sig (Elt F) Λ) (Q : PUnit.{1} → sProp 𝕄) (fc : Buf (Elt F) (A.ca.view.loc (c : Thread nD τ)))
    (hout : A.out.view.set = Finset.univ) (fo : Buf (Elt F) (A.out.view.loc (c : Thread nD τ))) :
    iprop(Whole A c fx fo ∗ labs A c fl ∗ cas A c fc ∗ owesAny c)
      ⊢ iprop((iprop(Whole A c fx (Out A c fx fl T ((A.ca.access caRect).read (Elt F) fc) fo) ∗ labs A c fl ∗ cas A c fc ∗ owesAny c) -∗ Q ⟨⟩)
        -∗ wp frame (wpE defs Variants.none (c : Thread nD τ) none) Set.univ (body A T) Q) := by
  iintro ⟨Hw, Hl, Hc, HW⟩ Hk
  ihave HB := (cut A c fx fl hout fo) $$ [Hw Hl HW]
  · isplitl [Hw]; · iexact Hw
    isplitl [Hl]; · iexact Hl
    iexact HW
  icases HB with ⟨HB, HR⟩
  iapply (wp_body A c fx fl T defs Q fc) $$ [HB Hc]
  · isplitl [HB]; · iexact HB
    iexact Hc
  iintro ⟨HA, Hc⟩
  ihave HA := (join A c fx fl T _ hout fo) $$ [HA HR]
  · isplitl [HA]; · iexact HA
    iexact HR
  icases HA with ⟨Hw, Hl, HW⟩
  iapply Hk
  isplitl [Hw]; · iexact Hw
  isplitl [Hl]; · iexact Hl
  isplitl [Hc]; · iexact Hc
  iexact HW

end Cert.Sched

end
-- ==== Proof.Blocks.lean ====
/-
  What the result array holds after the kernel, element by element, as a function of the three arrays alone.
-/
module

public import proofs.«01_k».proof.Proof.Cut

@[expose] public section

noncomputable section

namespace Cert.Sched

open Idealize.ShloMosaic Idealize.ShloMosaic.TcCoe
open Idealize.ShloMosaic.ValueIdx (ix2 ix3 ix4)

variable {nD : Nat} {τ : Topo} {sig : RefSig} {Λ : Idealize.SL.Sem.Labels} {F : FTy → Type} [FloatOps F]

/-- The tokens of batch row `s`, step `t`, as the tile the kernel loads. -/
def tokTile (X : SX.Idx → F .f32) (s t : Nat) : Vec F BX4 .f32 := fun j =>
  X (ix3 (⟨s % 8, Nat.mod_lt _ (by decide)⟩ : Fin 8)
    (⟨128 * (t % 32) + (j 2).val, by have h : (j 2).val < 128 := (j 2).isLt; omega⟩ : Fin 4096)
    (⟨(j 3).val, (j 3).isLt⟩ : Fin 768))

/-- The labels of batch row `s`, step `t`, as the row the kernel loads. -/
def labTile (L : SL.Idx → BitVec 32) (s t : Nat) : Vec F BL .i32 := fun j =>
  L (ix4 (⟨s % 8, Nat.mod_lt _ (by decide)⟩ : Fin 8) (⟨t % 32, Nat.mod_lt _ (by decide)⟩ : Fin 32) (0 : Fin 1)
    (⟨(j 3).val, (j 3).isLt⟩ : Fin 128))

/-- Element `i` of the result, from the tokens, the labels and the prototypes. -/
def outOf (T : Vec F SC .f32 → Vec F BX4 .f32 → Vec F BL .i32 → Vec F BO .f32)
    (X : SX.Idx → F .f32) (L : SL.Idx → BitVec 32) (C : Vec F SC .f32) (i : SO.Idx) : F .f32 :=
  T C (tokTile X (i 0).val ((i 1).val / 128)) (labTile L (i 0).val ((i 1).val / 128))
    (ix4 (0 : Fin 1) (0 : Fin 1) (⟨(i 1).val % 128, Nat.mod_lt _ (by decide)⟩ : Fin 128) (⟨(i 2).val, (i 2).isLt⟩ : Fin 16))

variable (A : Args sig) (c : Dev nD)
  (fx : Buf (Elt F) (A.x.view.loc (c : Thread nD τ))) (fl : Buf (Elt F) (A.lab.view.loc (c : Thread nD τ)))
  (T : Vec F SC .f32 → Vec F BX4 .f32 → Vec F BL .i32 → Vec F BO .f32)

/-- Position `j` of the loaded tile stands at row `128 t + j₂`, column `j₃` of batch row `s`. -/
theorem x_emb (s t : Nat) (j : BX4.Idx) :
    (xRect s t).emb (Shape.reshapeEquiv sqX3.numel_eq ((Shape.reshapeEquiv sqX4.numel_eq).symm j))
      = ix3 (⟨s % 8, Nat.mod_lt _ (by decide)⟩ : Fin 8)
          (⟨128 * (t % 32) + (j 2).val, by have h : (j 2).val < 128 := (j 2).isLt; omega⟩ : Fin 4096)
          (⟨(j 3).val, (j 3).isLt⟩ : Fin 768) := by
  have h0 : (j 0).val < 1 := (j 0).isLt
  have h1 : (j 1).val < 1 := (j 1).isLt
  have e : (Shape.reshapeEquiv sqX4.numel_eq).symm j
      = ix2 (⟨(j 2).val, (j 2).isLt⟩ : Fin 128) (⟨(j 3).val, (j 3).isLt⟩ : Fin 768) := by
    rw [Equiv.symm_apply_eq, ValueIdx.reshapeEquiv_ix2_11ab]
    funext a
    fin_cases a <;> apply Fin.ext
    · show (j 0).val = 0; omega
    · show (j 1).val = 0; omega
    · rfl
    · rfl
  rw [e, ValueIdx.reshapeEquiv_ix2_1ab]
  funext a
  fin_cases a <;> apply Fin.ext <;> rw [Rect.emb_apply]
  · show s % 8 + 1 * 0 = s % 8; omega
  · show 128 * (t % 32) + 1 * (j 2).val = 128 * (t % 32) + (j 2).val; omega
  · show 0 + 1 * (j 3).val = (j 3).val; omega

theorem xval_eq (s t : Nat) : xval A c fx s t = tokTile (A.x.view.read (Elt F) fx) s t := by
  funext j
  exact congrArg (A.x.view.read (Elt F) fx) (x_emb s t j)

theorem lval_eq (s t : Nat) : lval A c fl s t = labTile (F := F) (A.lab.view.read (Elt F) fl) s t := by
  funext j
  refine congrArg (A.lab.view.read (Elt F) fl) ?_
  have h0 : (j 0).val < 1 := (j 0).isLt
  have h1 : (j 1).val < 1 := (j 1).isLt
  have h2 : (j 2).val < 1 := (j 2).isLt
  funext a
  fin_cases a <;> apply Fin.ext
  · show ((labRect s t).emb j 0).val = s % 8
    rw [Rect.emb_apply]; show s % 8 + 1 * (j 0).val = s % 8; omega
  · show ((labRect s t).emb j 1).val = t % 32
    rw [Rect.emb_apply]; show t % 32 + 1 * (j 1).val = t % 32; omega
  · show ((labRect s t).emb j 2).val = 0
    rw [Rect.emb_apply]; show 0 + 1 * (j 2).val = 0; omega
  · show ((labRect s t).emb j 3).val = (j 3).val
    rw [Rect.emb_apply]; show 0 + 1 * (j 3).val = (j 3).val; omega

theorem ca_read (fc : Buf (Elt F) (A.ca.view.loc (c : Thread nD τ))) :
    (A.ca.access caRect).read (Elt F) fc = A.ca.view.read (Elt F) fc := by
  funext j
  refine congrArg (A.ca.view.read (Elt F) fc) ?_
  funext a
  apply Fin.ext
  rw [Rect.emb_apply]
  fin_cases a
  · show 0 + 1 * (j 0).val = (j 0).val; omega
  · show 0 + 1 * (j 1).val = (j 1).val; omega

theorem outVal_eq (fc : Buf (Elt F) (A.ca.view.loc (c : Thread nD τ))) :
    outVal A c fx fl T ((A.ca.access caRect).read (Elt F) fc)
      = outOf T (A.x.view.read (Elt F) fx) (A.lab.view.read (Elt F) fl) (A.ca.view.read (Elt F) fc) := by
  funext i
  unfold outVal outOf res
  rw [xval_eq, lval_eq, ca_read]

end Cert.Sched

end
-- ==== Proof.LaunchKernel.lean ====
/-
  The word-level program launched: from the arguments as given, every run ends, with the result array at what the
  schedule computes and every semaphore back at zero.
-/
module

public import proofs.«01_k».proof.Proof.Gen.Kernel.Frame
public import proofs.«01_k».proof.Proof.Gen.Kernel.Points
public import proofs.«01_k».proof.Proof.SchedKernel
public import proofs.«01_k».proof.Proof.Blocks

@[expose] public section

set_option maxRecDepth 16384

noncomputable section

namespace Cert.Kernel.Sched

open Cert.Kernel Cert.Kernel.Gen
open Cert.Sched (Args Whole labs cas owesAny semv rows Out outVal outOf wp_whole outVal_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own DMA cells: numbers 2 to 51. -/
abbrev osem0 : Fin 50 → SemLoc sig := fun j => SemLoc.dma ⟨2 + j.val, by have := j.isLt; show 2 + j.val < 52; omega⟩

theorem ownSemFacts0 : Pipeline.OwnSemFacts spec0 osem0 := by decide

/-- The buffer the kernel reads by its own copies, and the one it writes by them. -/
def H0 : Finset (Ref sig .tc) := {main_v0}
def R0 : Finset (Ref sig .tc) := {main_v2}
theorem H0_sub : H0 ⊆ Pipeline.restRefs sig spec0 := by decide
theorem R0_sub : R0 ⊆ Pipeline.restRefs sig spec0 \ H0 := by decide

/-- What the body works on at a point. -/
abbrev args (t : Fin cfg0.N) : Args sig :=
  ⟨Memref.whole main_v0, win0_0.stage (cfg0.slots t 0), win0_1.stage (cfg0.slots t 1), Memref.whole main_v2,
    Memref.whole cc0_scratch0, Memref.whole cc0_scratch1, cc0_scratch2, cc0_scratch3⟩

/-- The result array after the kernel. -/
def outBuf (c : Dev nD) : Buf (Elt F) ((c : Thread nD τ).loc main_v2) :=
  outOf (F := F) Cert.Cosine.tile (V m c main_v0) (V m c main_v1) (V m c main_arg2)

/-- The bypassing buffers after the kernel: only the result array differs. -/
def G (c : Dev nD) (b : Ref sig .tc) : Buf (Elt F) ((c : Thread nD τ).loc b) :=
  if h : main_v2 = b then h ▸ outBuf m c else V m c b

theorem G_out (c : Dev nD) : G m c main_v2 = outBuf m c := by
  unfold G; rw [dif_pos rfl]

/-- The two windows' blocks are their whole arrays. -/
theorem blk0 (c : Dev nD) (t : Fin cfg0.N) :
    ((cfg0.win 0).blk t).view.read (Elt F) (V m c (Pipeline.arrRef spec0 0)) = V m c main_v1 := by
  obtain rfl := fin_N0 t
  funext i
  refine congrArg (V m c main_v1) ?_
  funext a
  apply Fin.ext
  fin_cases a
  · show 0 * 8 + 1 * (i 0).val = (i 0).val; omega
  · show 0 * 32 + 1 * (i 1).val = (i 1).val; omega
  · show 0 * 1 + 1 * (i 2).val = (i 2).val; omega
  · show 0 * 128 + 1 * (i 3).val = (i 3).val; omega

theorem blk1 (c : Dev nD) (t : Fin cfg0.N) :
    ((cfg0.win 1).blk t).view.read (Elt F) (V m c (Pipeline.arrRef spec0 1)) = V m c main_arg2 := by
  obtain rfl := fin_N0 t
  funext i
  refine congrArg (V m c main_arg2) ?_
  funext a
  apply Fin.ext
  fin_cases a
  · show 0 * 16 + 1 * (i 0).val = (i 0).val; omega
  · show 0 * 768 + 1 * (i 1).val = (i 1).val; omega

/-- The proof data of the pipeline: the two inputs stay, the result array goes from what it held to `G`. -/
def dats (_ : Fin 1) (c : Dev nD) : Dat τ (Elt F) Unit ℕ (Pipeline.UD sig nD τ) ℕ cfg0 c where
  A w := V m c (Pipeline.arrRef spec0 w)
  after w _ := match w with
    | ⟨0, _⟩ => V m c main_v1
    | ⟨1, _⟩ => V m c main_arg2
    | ⟨_ + 2, h⟩ => absurd h (Nat.not_lt.2 (Nat.le_add_left _ _))
  Φ t := if t.val = 0 then Pipeline.ΦDRV osem0 spec0 H0 R0 (V m) (V m) c else Pipeline.ΦDRV osem0 spec0 H0 R0 (V m) (G m) c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = V m c main_v1 :=
  ((dats m 0 c).before_in_eq_fetched 0 rfl (fun _ => rfl) (fun _ _ _ => rfl) (fun t => (blk0 m c t).symm) t d).trans (blk0 m c t)

theorem before0_1 (c : Dev nD) (t : Fin cfg0.N) (d) : (dats m 0 c).before 1 t d = V m c main_arg2 :=
  ((dats m 0 c).before_in_eq_fetched 1 rfl (fun _ => rfl) (fun _ _ _ => rfl) (fun t => (blk1 m c t).symm) t d).trans (blk1 m c t)

/-- The kernel's cells listed by slot, then by half. -/
abbrev cellList : List (Fin 50) :=
  ([0, 1, 2, 3, 4, 5].flatMap fun k => rows.map fun s => Fin.ofNat 50 (8 * k + s)) ++ [48, 49]

theorem cells_eq (c : Dev nD) (t : Fin cfg0.N) :
    (Pipeline.ownSems0 (Ix := Unit) (Name := ℕ) (U := Pipeline.UD sig nD τ) (Lvl := ℕ) (Val := Elt F) (τ := τ) osem0 c : sProp 𝕄)
      = iprop(bigSepL [0, 1, 2, 3, 4, 5] (fun k => bigSepL rows (semv (args t) c k))
          ∗ (semVal ((c : Thread nD τ), .dma ((args t).osem 0)) 0 ∗ semVal ((c : Thread nD τ), .dma ((args t).osem 1)) 0)) := by
  rw [Pipeline.ownSems0_eq_of_list c osem0 cellList (by decide) (by decide), bigSepL_append, Cert.Sched.bigSepL_flat]
  rfl

/-! ## The body -/

theorem PhiDRV_eq (c : Dev nD) (W : (c : Dev nD) → (b : Ref sig .tc) → Buf (Elt F) ((c : Thread nD τ).loc b)) :
    (Pipeline.ΦDRV osem0 spec0 H0 R0 (V m) W c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.ownSems0 (Ix := Unit) (Name := ℕ) (U := Pipeline.UD sig nD τ) (Lvl := ℕ) (Val := Elt F) (τ := τ) osem0 c
          ∗ (((c : Thread nD τ).loc main_v0) ↦{fullShare} V m c main_v0) ∗ (((c : Thread nD τ).loc main_v2) ↦{fullShare} W c main_v2)) := by
  unfold Pipeline.ΦDRV
  rw [scopedRest0_eq, BI.bigSep_eq_bigSepL_of_eq (S := H0) [main_v0] (by decide) (by decide),
    BI.bigSep_eq_bigSepL_of_eq (S := R0) [main_v2] (by decide) (by decide)]
  rfl

/-- The invariant's pieces are the whole buffers of the schedule. -/
theorem whole_eq (c : Dev nD) (t : Fin cfg0.N) (W : (c : Dev nD) → (b : Ref sig .tc) → Buf (Elt F) ((c : Thread nD τ).loc b)) :
    (Pipeline.ΦDRV osem0 spec0 H0 R0 (V m) W c : sProp 𝕄) ⊣⊢ Whole (args t) c (V m c main_v0) (W c main_v2) := by
  rw [PhiDRV_eq, cells_eq c t]
  unfold Whole
  constructor
  · iintro ⟨⟨Hb, Ho⟩, ⟨Hs, Hv⟩, Hx, Hw⟩
    isplitl [Hb]; · iexact Hb
    isplitl [Ho]; · iexact Ho
    isplitl [Hs]; · iexact Hs
    isplitl [Hv]; · iexact Hv
    isplitl [Hx]; · iexact Hx
    iexact Hw
  · iintro ⟨Hb, Ho, Hs, Hv, Hx, Hw⟩
    isplitl [Hb Ho]
    · isplitl [Hb]; · iexact Hb
      iexact Ho
    isplitl [Hs Hv]
    · isplitl [Hs]; · iexact Hs
      iexact Hv
    isplitl [Hx]; · iexact Hx
    iexact Hw

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- What the schedule leaves in the result array is `outBuf`. -/
theorem out_eq (c : Dev nD) (t : Fin cfg0.N) (fl : Buf (Elt F) ((args t).lab.view.loc (c : Thread nD τ)))
    (fc : Buf (Elt F) ((args t).ca.view.loc (c : Thread nD τ))) (fo : Buf (Elt F) ((args t).out.view.loc (c : Thread nD τ)))
    (hl : (args t).lab.view.read (Elt F) fl = V m c main_v1) (hc : (args t).ca.view.read (Elt F) fc = V m c main_arg2) :
    Out (args t) c (V m c main_v0) fl Cert.Cosine.tile (((args t).ca.access Cert.Sched.caRect).read (Elt F) fc) fo = outBuf m c := by
  unfold Out outBuf
  rw [outVal_eq, hl, hc]
  exact View.write_whole_univ _ _ _

theorem Phi_before (c : Dev nD) (t : Fin cfg0.N) :
    (dats m 0 c).Φ t.castSucc = Pipeline.ΦDRV osem0 spec0 H0 R0 (V m) (V m) c := by
  change (if t.castSucc.val = 0 then _ else _) = _
  exact if_pos (by rw [fin_N0 t]; rfl)

theorem Phi_after (c : Dev nD) (t : Fin cfg0.N) :
    (dats m 0 c).Φ t.succ = Pipeline.ΦDRV osem0 spec0 H0 R0 (V m) (G m) c := by
  change (if t.succ.val = 0 then Pipeline.ΦDRV osem0 spec0 H0 R0 (V m) (V m) c else _) = _
  exact if_neg (Nat.succ_ne_zero t.val)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_before, Phi_after, body_eq]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩⟩
  rw [before0_0, before0_1]
  unfold owns
  icases H0 with ⟨%fl, %hl, Hl⟩
  icases H1 with ⟨%fc, %hc, Hc⟩
  ihave HΦ := (whole_eq m c t (V m)).1 $$ HΦ
  iapply (wp_whole (args t) c (V m c main_v0) fl Cert.Cosine.tile (defs₀ (F := F)) _ fc (View.set_whole _) (V m c main_v2)) $$ [HΦ Hl Hc HW]
  · isplitl [HΦ]; · iexact HΦ
    isplitl [Hl]; · unfold labs; iexact Hl
    isplitl [Hc]; · unfold cas; iexact Hc
    unfold owesAny; iexists _; iexact HW
  unfold labs cas owesAny
  rw [out_eq m c t fl fc _ hl hc, ← G_out m c]
  iintro ⟨HΦ, Hl, Hc, ⟨%W', HW'⟩⟩
  isplitl [HΦ]
  · iapply (whole_eq m c t (G m)).2; iexact HΦ
  isplitl [HW']
  · iexists W'; isplitr; · ipureintro; exact fun _ _ => Or.inl trivial
    iexact HW'
  isplitl [Hl]
  · iexists fl; isplitr; · ipureintro; exact hl
    iexact Hl
  iexists fc; isplitr; · ipureintro; exact hc
  iexact Hc

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers' contents when the lines after the region begin. -/
abbrev Vend (c : Dev nD) : Valuation τ sig (Elt F) :=
  Pipeline.withArrays spec0 c (Pipeline.withR (V0 m c) R0 c (G m c)) fun w => (dats m 0 c).arrAt w cfg0.N

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Vend m c) (Proc.devRef .tc b))
    ∧ r.2.sem = fun _ => 0) :=
  Pipeline.θ_run_frame_dmaR_aroundV (Q' := _) (hQ' := fun _ h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain' m Variants.none) (hA := A_eq m)
    (hin := fun _ => .rfl) (hout := fun _ => .rfl)

/-- No line after the region writes an argument, and the region's result array is not one. -/
theorem Vend_keeps (c : Dev nD) (b : Ref sig .tc) (hb : ∀ w, Pipeline.arrRef spec0 w ≠ b) (hR : b ∉ R0) (hv : b ≠ main_v3) :
    StableHlo.after (List.flatten [hostOps1]) (Vend m c) (Proc.devRef .tc b) = V m c b := by
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hv))]
  unfold Vend
  rw [Pipeline.withArrays_of_ne _ c _ _ b hb, Pipeline.withR_of_not_mem _ _ _ _ _ hR]

/-- The region finds the tokens under the kernel's shape. -/
theorem V_tokens (c : Dev nD) :
    V m c main_v0 = shapeCast S8x4096x768 (m ((c : Thread nD τ).loc main_arg0)) shapeCasts_S4x8192x768_S8x4096x768 := by
  show StableHlo.after (List.flatten [hostOps0]) _ (Proc.devRef .tc main_v0) = _
  simp only [hostOps0, List.flatten_cons, List.flatten_nil, List.append_nil, List.cons_append, List.nil_append, StableHlo.after_cons,
    StableHlo.after_nil]
  rw [StableHlo.reshape_result_ne _ _ _ _ _ _ _ (by decide), StableHlo.reshape_result']
  rfl

/-- The region finds the labels under the kernel's shape. -/
theorem V_labels (c : Dev nD) :
    V m c main_v1 = shapeCast S8x32x1x128 (m ((c : Thread nD τ).loc main_arg1)) shapeCasts_S4x8192_S8x32x1x128 := by
  show StableHlo.after (List.flatten [hostOps0]) _ (Proc.devRef .tc main_v1) = _
  simp only [hostOps0, List.flatten_cons, List.flatten_nil, List.append_nil, List.cons_append, List.nil_append, StableHlo.after_cons,
    StableHlo.after_nil]
  rw [StableHlo.reshape_result', StableHlo.reshape_result_ne _ _ _ _ _ _ _ (by decide)]
  rfl

/-- The result: the region's array under the result's shape. -/
abbrev result (c : Dev nD) : FVec F S4x8192x16 .f32 :=
  shapeCast S4x8192x16 (outBuf m c) shapeCasts_S8x4096x16_S4x8192x16

theorem Vend_result (c : Dev nD) :
    StableHlo.after (List.flatten [hostOps1]) (Vend m c) (Proc.devRef .tc main_v3) = result m c := by
  have e : Vend m c (Proc.devRef .tc main_v2) = outBuf m c := by
    unfold Vend
    rw [Pipeline.withArrays_of_ne _ c _ _ main_v2 (by exact (by decide : ∀ w, Pipeline.arrRef spec0 w ≠ main_v2)),
      Pipeline.withR_of_mem _ _ _ _ _ (by decide : main_v2 ∈ R0), G_out]
  simp only [hostOps1, List.flatten_cons, List.flatten_nil, List.append_nil, List.cons_append, List.nil_append, StableHlo.after_cons,
    StableHlo.after_nil]
  rw [StableHlo.reshape_result', e]
  rfl

/-- The result as a function of the three arguments. -/
theorem result_eq (c : Dev nD) : result m c = shapeCast S4x8192x16 (outOf Cert.Cosine.tile
      (shapeCast S8x4096x768 (m ((c : Thread nD τ).loc main_arg0)) shapeCasts_S4x8192x768_S8x4096x768)
      (shapeCast S8x32x1x128 (m ((c : Thread nD τ).loc main_arg1)) shapeCasts_S4x8192_S8x32x1x128)
      (m ((c : Thread nD τ).loc main_arg2))) shapeCasts_S8x4096x16_S4x8192x16 := by
  unfold result outBuf
  rw [V_tokens, V_labels, V_main_arg2]

/-- **The run.** Every execution ends with the result holding `result`, the arguments unchanged, and every counter zero. -/
theorem run_result : θ_run defs (onTc (τ := τ) (main (F := F))) (s₀ m ρ) (fun r =>
    (∀ c : Dev nD, r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
    ⟨((h.1 c).2 main_v3 (Pipeline.mem_restRefs_of main_v3 (by decide) (by decide))).trans (Vend_result m c),
     ((h.1 c).2 main_arg0 (Pipeline.mem_restRefs_of main_arg0 (by decide) (by decide))).trans
      ((Vend_keeps m c main_arg0 (by exact (by decide : ∀ w, Pipeline.arrRef spec0 w ≠ main_arg0)) (by decide) (by decide)).trans (V_main_arg0 m c)),
     ((h.1 c).2 main_arg1 (Pipeline.mem_restRefs_of main_arg1 (by decide) (by decide))).trans
      ((Vend_keeps m c main_arg1 (by exact (by decide : ∀ w, Pipeline.arrRef spec0 w ≠ main_arg1)) (by decide) (by decide)).trans (V_main_arg1 m c)),
     ((h.1 c).1 1).trans (((dats m 0 c).arrAt_in 1 rfl _).trans ((A_eq m c 1).trans (V_main_arg2 m c)))⟩, h.2⟩) (run_main m ρ)

end Cert.Kernel.Sched

end
-- ==== Proof.SameProgram.lean ====
/-
  The program read over extended reals is the program read over words: no operation was replaced in between, so the
  two printed texts coincide, and what was proved of the one's run, at every instance of the floats, is the other's.
-/
module

public import proofs.«01_k».proof.Proof.LaunchKernel
public import proofs.«01_k».proof.Proof.Gen.KernelIdeal

@[expose] public section

noncomputable section

namespace Cert.KernelIdeal.Sched

open Idealize.ShloMosaic Idealize.ShloMosaic.TcCoe Idealize.SL.Sem
open Cert.KernelIdeal Cert.KernelIdeal.Gen

variable {F : FTy → Type} [FloatOps F]

/-- The two programs call the same body under the one label there is. -/
theorem bodies_same : (defs₀ (F := F) : Defs Cert.Kernel.nD Cert.Kernel.τ Cert.Kernel.sig (Elt F) Cert.Kernel.Λ₀)
    = Cert.Kernel.defs₀ := by
  funext κ l a
  cases κ
  · match l, a with
    | ⟨0, _⟩, _ => rfl
  all_goals rfl

theorem defs_same : (defs (F := F) : Defs Cert.Kernel.nD Cert.Kernel.τ Cert.Kernel.sig (Elt F)
      (Pipeline.Sig Cert.Kernel.Λ₀ (Fin 1) fun p => (Cert.Kernel.pcfgs (F := F) p).Adm)) = Cert.Kernel.defs :=
  congrArg (Pipeline.defs (Cert.Kernel.pcfgs (F := F))) bodies_same

variable (m : (ℓ : Loc nD τ sig) → Buf (Elt F) ℓ) (ρ : Dev nD → PrngReg)

/-- The result, from the arguments. -/
abbrev result (c : Dev nD) : FVec F S4x8192x16 .f32 := Cert.Kernel.Sched.result m c

/-- **The run.** Every execution ends with the result holding `result`, the arguments unchanged, and every counter zero. -/
theorem run_result : θ_run defs (onTc (τ := τ) (main (F := F))) ⟨m, fun _ => 0, ρ⟩ (fun r =>
    (∀ c : Dev nD, r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  have h := Cert.Kernel.Sched.run_result m ρ
  rw [← defs_same] at h
  exact h

end Cert.KernelIdeal.Sched

end
-- ==== Proof.Algebra.lean ====
/-
  The equations over the extended reals by which the kernel's formula is the reference's. A norm is positive, possibly
  infinite, so its inverse is a real number that is not negative, and multiplication by such a number distributes over
  every sum of extended reals. This is why no finiteness of the inputs is asked.
-/
module

public import Idealize.ShloMosaic.Lib.Pointwise
public import Idealize.ShloMosaic.Lib.IdealHost

@[expose] public section

noncomputable section

namespace Cert.Cosine

open Idealize.ShloMosaic

/-- The bound that keeps a norm away from zero. -/
abbrev eps : EReal := Ideal.ofBits .f32 0x322BCC77#32

/-- A row's norm, at least `eps`. -/
def norm {n : Nat} (v : Fin n → EReal) : EReal := max (Ideal.sqrt (∑ d, v d * v d)) eps

/-- The row holds an infinity. -/
def HasInf {n : Nat} (v : Fin n → EReal) : Prop :=
  ∃ d, FloatOps.absf (F := Ideal) (φ := .f32) (v d) = Ideal.ofBits .f32 0x7F800000#32

/-- The cosine of two rows: both brought to unit length, then multiplied. -/
def cosine {n : Nat} (x c : Fin n → EReal) : EReal := ∑ d, Ideal.div (x d) (norm x) * Ideal.div (c d) (norm c)

/-- One where the label is the class, minus one elsewhere. -/
def sign (lab k : BitVec 32) : EReal := Scalar.select (IntOp.cmpi .eq lab k) (1 : EReal) (Ideal.ofBits .f32 0xBF800000#32)

open Classical in
/-- The value at one token and one class. -/
def entry {n : Nat} (x c : Fin n → EReal) (lab k : BitVec 32) : EReal := if HasInf c then sign lab k else cosine x c

theorem eps_pos : 0 < eps := by
  simp only [eps, Ideal.ofBits, Ideal.ieee]
  simp
  exact EReal.mul_pos (by norm_num) (EReal.coe_pos.2 (by norm_num))

theorem norm_pos {n : Nat} (v : Fin n → EReal) : 0 < norm v := lt_of_lt_of_le eps_pos (le_max_right _ _)

theorem inv_nonneg {a : EReal} (h : 0 < a) : 0 ≤ a⁻¹ := EReal.inv_nonneg_of_nonneg h.le

theorem inv_ne_top {a : EReal} (h : 0 < a) : a⁻¹ ≠ ⊤ := by
  induction a with
  | bot => simp at h
  | top => simp
  | coe r => rw [← EReal.coe_inv]; exact EReal.coe_ne_top _

theorem div_of_pos (y : EReal) {a : EReal} (h : 0 < a) : Ideal.div y a = y * a⁻¹ := if_neg h.ne'

/-- A sum times a real number that is not negative is the sum of the products. -/
theorem sum_mul_of_nonneg {ι : Type} (s : Finset ι) (f : ι → EReal) {a : EReal} (h0 : 0 ≤ a) (h : a ≠ ⊤) :
    (∑ d ∈ s, f d) * a = ∑ d ∈ s, f d * a := by
  classical
  induction s using Finset.induction_on with
  | empty => simp
  | insert i s hi ih => rw [Finset.sum_insert hi, Finset.sum_insert hi, EReal.right_distrib_of_nonneg_of_ne_top h0 h, ih]

/-- Scaling the product once, at the end, is scaling each token's row first. -/
theorem scaled_sum {n : Nat} (x c : Fin n → EReal) :
    (∑ d, x d * (c d * Ideal.div 1 (norm c))) * Ideal.div 1 (norm x) = cosine x c := by
  have hx := norm_pos x
  have hc := norm_pos c
  unfold cosine
  rw [div_of_pos 1 hx, div_of_pos 1 hc, one_mul, one_mul, sum_mul_of_nonneg _ _ (inv_nonneg hx) (inv_ne_top hx)]
  refine Finset.sum_congr rfl fun d _ => ?_
  rw [div_of_pos _ hx, div_of_pos _ hc, mul_right_comm]

/-- A count of marks is positive exactly when there is a mark. -/
theorem sum_marks_pos {n : Nat} (p : Fin n → Prop) [DecidablePred p] :
    (0 : EReal) < (∑ d, if p d then (1 : EReal) else 0) ↔ ∃ d, p d := by
  constructor
  · intro h
    by_contra hn
    rw [not_exists] at hn
    simp [hn] at h
  · rintro ⟨d, hd⟩
    refine lt_of_lt_of_le (zero_lt_one' EReal) ?_
    have := Finset.single_le_sum (f := fun d => if p d then (1 : EReal) else 0) (s := Finset.univ)
      (fun i _ => by split <;> simp) (Finset.mem_univ d)
    simpa [hd] using this

theorem ofBits_neg_inf : Ideal.ofBits .f32 0xFF800000#32 = ⊥ := by
  simp [Ideal.ofBits, Ideal.ieee]

/-- The greatest mark is positive exactly when there is a mark. -/
theorem max_marks_pos {n : Nat} (p : Fin n → Prop) [DecidablePred p] :
    (0 : EReal) < Finset.fold max (Ideal.ofBits .f32 0xFF800000#32) (fun d => if p d then (1 : EReal) else 0) Finset.univ ↔ ∃ d, p d := by
  rw [Finset.lt_fold_max, ofBits_neg_inf]
  constructor
  · rintro (h | ⟨d, -, h⟩)
    · simp at h
    · refine ⟨d, ?_⟩
      by_contra hd
      simp [hd] at h
  · rintro ⟨d, hd⟩
    exact .inr ⟨d, Finset.mem_univ d, by simp [hd]⟩

theorem bit_set (q : Prop) [Decidable q] : BitVec.ofBool (decide q) = (1 : BitVec 1) ↔ q := by
  by_cases h : q <;> simp [h]

/-- The disjunction of the marks is set exactly when there is a mark. -/
theorem or_marks {ι : Type} (s : Finset ι) (p : ι → Prop) [DecidablePred p] :
    Finset.fold IntOp.ori (0#1) (fun d => BitVec.ofBool (decide (p d))) s = 1#1 ↔ ∃ d ∈ s, p d := by
  classical
  have bit : ∀ (q : Prop) [Decidable q] (b : BitVec 1), IntOp.ori (BitVec.ofBool (decide q)) b = 1#1 ↔ q ∨ b = 1#1 := by
    intro q _ b
    by_cases h : q <;> simp only [h, decide_true, decide_false, true_or, false_or, iff_true]
    · revert b; decide
    · revert b; decide
  induction s using Finset.induction_on with
  | empty => simp
  | insert i s hi ih => rw [Finset.fold_insert hi]; exact (bit _ _).trans ((or_congr Iff.rfl ih).trans (Finset.exists_mem_insert ..).symm)

/-- A label survives the way to a float and back. -/
theorem label_back (w : BitVec 32) : Ideal.fptosi 32 (((w.toInt : ℝ) : EReal)) = w := by
  have h1 := BitVec.toInt_lt (x := w)
  have h2 := BitVec.le_toInt (x := w)
  unfold Ideal.fptosi
  rw [show Ideal.toIntClamped (-(2 ^ (32 - 1) : Nat)) ((2 ^ (32 - 1) : Nat) - 1) ((w.toInt : ℝ) : EReal)
      = max (-((2 ^ (32 - 1) : Nat) : Int)) (min (((2 ^ (32 - 1) : Nat) : Int) - 1) (if 0 ≤ (w.toInt : ℝ) then ⌊(w.toInt : ℝ)⌋ else ⌈(w.toInt : ℝ)⌉)) from rfl,
    Int.floor_intCast, Int.ceil_intCast, ite_self, min_eq_right (by omega), max_eq_right (by omega), BitVec.ofInt_toInt]

/-- A sum over a row of labels, all but one struck out, is the one label. -/
theorem picked (lab : Fin 128 → BitVec 32) (r : Fin 128) :
    (∑ j : Fin 128, Scalar.select (IntOp.cmpi .eq (BitVec.ofNat 32 j.val) (BitVec.ofNat 32 r.val))
      (((lab j).toInt : ℝ) : EReal) 0) = (((lab r).toInt : ℝ) : EReal) := by
  rw [Finset.sum_eq_single r]
  · simp [Scalar.select, IntOp.cmpi]
  · intro j _ hj
    have : BitVec.ofNat 32 j.val ≠ BitVec.ofNat 32 r.val := fun e => hj (Fin.ext (by
      have := congrArg BitVec.toNat e
      simpa [BitVec.toNat_ofNat, Nat.mod_eq_of_lt (show j.val < 4294967296 by omega), Nat.mod_eq_of_lt (show r.val < 4294967296 by omega)] using this))
    simp only [Scalar.select, IntOp.cmpi, beq_eq_false_iff_ne.mpr this]
    rfl
  · exact fun h => absurd (Finset.mem_univ r) h

end Cert.Cosine

end
-- ==== Proof.TileValue.lean ====
/-
  One tile of the kernel over the extended reals, read at an index: the value at one token and one class.
-/
module

public import proofs.«01_k».proof.Proof.Tile
public import proofs.«01_k».proof.Proof.Algebra

@[expose] public section

set_option maxRecDepth 16384

noncomputable section

namespace Cert.Cosine

open Idealize.ShloMosaic Idealize.SL.Sem
open Cert.KernelIdeal Cert.KernelIdeal.Facts₀

variable (ca : Vec Ideal S16x768 .f32)

theorem hasInfRow_apply (k : Fin 16) : hasInfRow ca (ix2 0 k) = 1 ↔ HasInf fun d => ca (ix2 k d) := by
  pointwise [hasInfRow, infMask]
  exact (bit_set _).trans (sum_marks_pos _)

theorem hasInfCol_apply (k : Fin 16) : hasInfCol ca (ix2 k 0) = 1 ↔ HasInf fun d => ca (ix2 k d) := by
  pointwise [hasInfCol, infMask]
  exact (bit_set _).trans (max_marks_pos _)

/-- A prototype without an infinity is left as it is. -/
theorem cleaned_apply (k : Fin 16) (h : ¬ HasInf fun d => ca (ix2 k d)) (d : Fin 768) : cleaned ca (ix2 k d) = ca (ix2 k d) := by
  pointwise [cleaned]
  unfold Scalar.select
  exact if_neg fun e => h ((hasInfCol_apply ca k).1 e)

theorem unitRows_apply (k : Fin 16) (h : ¬ HasInf fun d => ca (ix2 k d)) (d : Fin 768) :
    unitRows ca (ix2 k d) = ca (ix2 k d) * Ideal.div 1 (norm fun d => ca (ix2 k d)) := by
  pointwise [unitRows, norm]
  simp only [cleaned_apply ca k h]

theorem tileCos_apply (x : FVec Ideal S128x768 .f32) (r : Fin 128) (k : Fin 16) (h : ¬ HasInf fun d => ca (ix2 k d)) :
    tileCos ca x (ix2 r k) = cosine (fun d => x (ix2 r d)) (fun d => ca (ix2 k d)) := by
  rw [← scaled_sum]
  pointwise [tileCos, norm]
  simp only [unitRows_apply ca k h, norm]

theorem tileSign_apply (lab : Vec Ideal S1x1x1x128 .i32) (r : Fin 128) (k : Fin 16) :
    tileSign (F := Ideal) lab (ix2 r k) = sign (lab (ix4 0 0 0 r)) (BitVec.ofNat 32 k.val) := by
  pointwise [tileSign, pick, sign]
  have e : FloatOps.fptosi (F := Ideal) (φ := .f32) 32 (∑ j : Fin 128,
      Scalar.select (IntOp.cmpi .eq (BitVec.ofNat 32 j.val) (BitVec.ofNat 32 r.val))
        (FloatOps.sitofp (F := Ideal) .f32 (lab (ix4 0 0 0 j))) 0) = lab (ix4 0 0 0 r) :=
    (congrArg (Ideal.fptosi 32) (picked (fun j => lab (ix4 0 0 0 j)) r)).trans (label_back _)
  rw [e]

/-- **One tile.** What the kernel stores for a token and a class is the value of `entry` there. -/
theorem tile_apply (x : Vec Ideal S1x1x128x768 .f32) (lab : Vec Ideal S1x1x1x128 .i32) (r : Fin 128) (k : Fin 16) :
    tile ca x lab (ix4 0 0 r k)
      = entry (fun d => x (ix4 0 0 r d)) (fun d => ca (ix2 k d)) (lab (ix4 0 0 0 r)) (BitVec.ofNat 32 k.val) := by
  pointwise [tile]
  unfold entry Scalar.select
  by_cases h : HasInf fun d => ca (ix2 k d)
  · rw [if_pos h, if_pos ((hasInfRow_apply ca k).2 h), tileSign_apply]
  · rw [if_neg h, if_neg fun e => h ((hasInfRow_apply ca k).1 e), tileCos_apply ca _ r k h]
    pointwise

end Cert.Cosine

end
-- ==== Proof.Reference.lean ====
/-
  The reference, in four parts, each read at an index: the tokens and the prototypes brought to unit length, the classes
  that hold an infinity, and the plus or minus one of the labels.
-/
module

public import proofs.«01_k».proof.Proof.Gen.ReferenceIdeal
public import proofs.«01_k».proof.Proof.Algebra

@[expose] public section

noncomputable section

namespace Cert.Cosine.Ref

open Idealize.ShloMosaic Idealize.SL.Sem
open Cert.ReferenceIdeal Cert.ReferenceIdeal.Gen

/-- The tokens, each brought to unit length. -/
def tokens (X : FVec Ideal S4x8192x768 .f32) : FVec Ideal S4x8192x768 .f32 :=
  Host.divf X (broadcastInDim S4x8192x768 ![0, 1, 2] bcast_S4x8192x1_S4x8192x768_0_1_2
    (maximumf (Host.sqrt (broadcastInDim S4x8192x1 ![0, 1] bcast_S4x8192_S4x8192x1_0_1
        (Host.reduceAdd (mulf X X) (constant S_ .f32 0x00000000#32) reducesTo_S4x8192x768_S4x8192_d2 h_S_)))
      (broadcastInDim S4x8192x1 ![] bcast_S_S4x8192x1 (constant S_ .f32 0x322BCC77#32))))

/-- The prototypes, each brought to unit length. -/
def protos (ca : FVec Ideal S16x768 .f32) : FVec Ideal S16x768 .f32 :=
  Host.divf ca (broadcastInDim S16x768 ![0, 1] bcast_S16x1_S16x768_0_1
    (maximumf (Host.sqrt (broadcastInDim S16x1 ![0] bcast_S16_S16x1_0
        (Host.reduceAdd (mulf ca ca) (constant S_ .f32 0x00000000#32) reducesTo_S16x768_S16_d1 h_S_)))
      (broadcastInDim S16x1 ![] bcast_S_S16x1 (constant S_ .f32 0x322BCC77#32))))

/-- Which prototypes hold an infinity. -/
def hasInf (ca : FVec Ideal S16x768 .f32) : IVec S16 1 :=
  Host.reduce IntOp.ori (cmpf .oeq (Host.absf ca) (broadcastInDim S16x768 ![] bcast_S_S16x768 (constant S_ .f32 0x7F800000#32)))
    (constantI S_ 1 0#1) reducesTo_S16x768_S16_d1 h_S_

/-- One where the label is the class, minus one elsewhere. -/
def signs (lab : IVec S4x8192 32) : FVec Ideal S4x8192x16 .f32 :=
  select (cmpi .eq
      (broadcastInDim S4x8192x16 ![0, 1, 2] bcast_S4x8192x1_S4x8192x16_0_1_2
        (broadcastInDim S4x8192x1 ![0, 1] bcast_S4x8192_S4x8192x1_0_1 lab))
      (broadcastInDim S4x8192x16 ![0, 1, 2] bcast_S1x1x16_S4x8192x16_0_1_2
        (broadcastInDim S1x1x16 ![2] bcast_S16_S1x1x16_2 (iotaInDim S16 32 0))))
    (broadcastInDim S4x8192x16 ![] bcast_S_S4x8192x16 (constant S_ .f32 0x3F800000#32))
    (broadcastInDim S4x8192x16 ![] bcast_S_S4x8192x16 (constant S_ .f32 0xBF800000#32))

/-- What the reference returns. -/
def out (X : FVec Ideal S4x8192x768 .f32) (lab : IVec S4x8192 32) (ca : FVec Ideal S16x768 .f32) : FVec Ideal S4x8192x16 .f32 :=
  select (broadcastInDim S4x8192x16 ![0, 1, 2] bcast_S1x1x16_S4x8192x16_0_1_2
      (broadcastInDim S1x1x16 ![2] bcast_S16_S1x1x16_2 (hasInf ca)))
    (signs lab) (Host.dotGeneral dot_S4x8192x768_S16x768_S4x8192x16_2_1_01_0_n_n none (tokens X) (protos ca))

variable (X : FVec Ideal S4x8192x768 .f32) (lab : IVec S4x8192 32) (ca : FVec Ideal S16x768 .f32)

theorem tokens_apply (b : Fin 4) (t : Fin 8192) (d : Fin 768) :
    tokens X (ix3 b t d) = Ideal.div (X (ix3 b t d)) (norm fun d => X (ix3 b t d)) := by
  pointwise [tokens, norm]

theorem protos_apply (k : Fin 16) (d : Fin 768) :
    protos ca (ix2 k d) = Ideal.div (ca (ix2 k d)) (norm fun d => ca (ix2 k d)) := by
  pointwise [protos, norm]

theorem hasInf_apply (k : Fin 16) : hasInf ca (ix1 k) = 1 ↔ HasInf fun d => ca (ix2 k d) := by
  pointwise [hasInf]
  refine (or_marks _ _).trans ?_
  unfold HasInf
  simp only [Finset.mem_univ, true_and]

theorem signs_apply (b : Fin 4) (t : Fin 8192) (k : Fin 16) :
    signs lab (ix3 b t k) = sign (lab (ix2 b t)) (BitVec.ofNat 32 k.val) := by
  pointwise [signs, sign]

/-- The reference's value at one token and one class. -/
theorem out_apply (b : Fin 4) (t : Fin 8192) (k : Fin 16) :
    out X lab ca (ix3 b t k)
      = entry (fun d => X (ix3 b t d)) (fun d => ca (ix2 k d)) (lab (ix2 b t)) (BitVec.ofNat 32 k.val) := by
  pointwise [out]
  unfold entry cosine Scalar.select
  simp only [signs_apply, tokens_apply, protos_apply]
  by_cases h : HasInf fun d => ca (ix2 k d)
  · rw [if_pos h, if_pos ((hasInf_apply ca k).2 h)]
  · rw [if_neg h, if_neg fun e => h ((hasInf_apply ca k).1 e)]

end Cert.Cosine.Ref

end
-- ==== Proof.Value.lean ====
/-
  The kernel's result over the extended reals, read at one token and one class, is the reference's.
-/
module

public import proofs.«01_k».proof.Proof.SameProgram
public import proofs.«01_k».proof.Proof.TileValue
public import proofs.«01_k».proof.Proof.Reference

@[expose] public section

set_option maxRecDepth 16384

noncomputable section

namespace Cert.Cosine

open Idealize.ShloMosaic Idealize.SL.Sem
open Cert.KernelIdeal Cert.KernelIdeal.Facts₀

variable (X : FVec Ideal S4x8192x768 .f32) (lab : IVec S4x8192 32) (ca : FVec Ideal S16x768 .f32)

/-- The kernel's result as a function of the three arguments. -/
def kernelOut : FVec Ideal S4x8192x16 .f32 :=
  shapeCast S4x8192x16 (Cert.Sched.outOf (F := Ideal) tile
    (shapeCast S8x4096x768 X shapeCasts_S4x8192x768_S8x4096x768)
    (shapeCast S8x32x1x128 lab shapeCasts_S4x8192_S8x32x1x128) ca) shapeCasts_S8x4096x16_S4x8192x16

theorem kernelOut_apply (b : Fin 4) (t : Fin 8192) (k : Fin 16) :
    kernelOut X lab ca (ix3 b t k)
      = entry (fun d => X (ix3 b t d)) (fun d => ca (ix2 k d)) (lab (ix2 b t)) (BitVec.ofNat 32 k.val) := by
  pointwise [kernelOut]
  unfold Cert.Sched.outOf
  refine (tile_apply ca _ _ _ _).trans ?_
  unfold Cert.Sched.tokTile Cert.Sched.labTile
  have h1 : (fun d : Fin 768 => shapeCast S8x4096x768 X shapeCasts_S4x8192x768_S8x4096x768
      (ix3 (⟨(b.val * 2 + t.val / 4096) % 8, Nat.mod_lt _ (by decide)⟩ : Fin 8)
        (⟨128 * (t.val % 4096 / 128 % 32) + t.val % 4096 % 128, by omega⟩ : Fin 4096) d)) = fun d => X (ix3 b t d) := by
    funext d
    pointwise
  have h2 : shapeCast S8x32x1x128 lab shapeCasts_S4x8192_S8x32x1x128
      (ix4 (⟨(b.val * 2 + t.val / 4096) % 8, Nat.mod_lt _ (by decide)⟩ : Fin 8)
        (⟨t.val % 4096 / 128 % 32, Nat.mod_lt _ (by decide)⟩ : Fin 32) 0
        (⟨t.val % 4096 % 128, Nat.mod_lt _ (by decide)⟩ : Fin 128)) = lab (ix2 b t) := by
    pointwise
  rw [← h1, ← h2]
  rfl

/-- **The value.** The kernel's result is the reference's, at every element and for all extended reals. -/
theorem kernelOut_eq : kernelOut X lab ca = Ref.out X lab ca := by
  funext i
  idx_vars i
  rw [kernelOut_apply]
  exact (Ref.out_apply X lab ca _ _ _).symm

end Cert.Cosine

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.SameProgram
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem kernel_frame : quiescent_Kernel (hKernel := Cert.Kernel.Gen.facts) := fun m ρ _ =>
  (θ_run _ _ _).mono (fun _ h => ⟨fun c => (h.1 c).2, h.2⟩) (Cert.Kernel.Sched.run_result m ρ)

theorem kernelIdeal_frame : quiescent_KernelIdeal (hKernelIdeal := Cert.KernelIdeal.Gen.facts) := fun m ρ _ =>
  (θ_run _ _ _).mono (fun _ h => ⟨fun c => (h.1 c).2, h.2⟩) (Cert.KernelIdeal.Sched.run_result m ρ)

/-- The reference has no semaphores. -/
theorem reference_frame : quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- From memories that agree on the arguments both end with `kernelOut` of the arguments. -/
theorem values_equal : algebraic_KernelIdeal_ReferenceIdeal (hKernelIdeal := Cert.KernelIdeal.Gen.facts)
    (hReferenceIdeal := Cert.ReferenceIdeal.Gen.facts) := fun m ρ m' ρ' _ hm =>
  ⟨fun c => Cert.Cosine.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun _ h c => ⟨(h.1 c).1.trans (Cert.Kernel.Sched.result_eq m c), (h.1 c).2⟩)
      (Cert.KernelIdeal.Sched.run_result m ρ),
    (θ_run _ _ _).mono (fun _ h c => ⟨(h c).1.trans (by
        rw [(hm c).1, (hm c).2.1, (hm c).2.2]
        exact (Cert.Cosine.kernelOut_eq _ _ _).symm), (h c).2⟩)
      (Cert.ReferenceIdeal.Value.run m' ρ')⟩

theorem claim : Cert.Claim := ⟨Cert.Kernel.Gen.facts, Cert.KernelIdeal.Gen.facts, Cert.ReferenceIdeal.Gen.facts,
  kernel_frame, kernelIdeal_frame, reference_frame, trivial, values_equal⟩

end Cert.Proof

end
